-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_category_counts_at_most_32 [hPre_category_counts_at_most_32 : Cert.Pre_category_counts_at_most_32.Facts] (m : (ℓ : Loc Cert.KernelIdeal.nD Cert.KernelIdeal.τ Cert.KernelIdeal.sig) → Buf (Elt Ideal) ℓ) : Prop :=
  ∀ c : Dev Cert.KernelIdeal.nD,
    (Cert.Pre_category_counts_at_most_32.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_category_counts_at_most_32 [hPre_category_counts_at_most_32 : Cert.Pre_category_counts_at_most_32.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_category_counts_at_most_32.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_category_counts_at_most_32 [hKernelIdeal : Cert.KernelIdeal.Facts] [hPre_category_counts_at_most_32 : Cert.Pre_category_counts_at_most_32.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_category_counts_at_most_32 m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_category_counts_at_most_32 [hReferenceIdeal : Cert.ReferenceIdeal.Facts] [hPre_category_counts_at_most_32 : Cert.Pre_category_counts_at_most_32.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_category_counts_at_most_32 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_category_counts_at_most_32 [hKernelIdeal : Cert.KernelIdeal.Facts] [hReferenceIdeal : Cert.ReferenceIdeal.Facts] [hPre_category_counts_at_most_32 : Cert.Pre_category_counts_at_most_32.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_category_counts_at_most_32 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_category_counts_at_most_32 : Cert.Pre_category_counts_at_most_32.Facts),
    quiescent_Kernel (hKernel := hKernel)
    ∧ quiescent_KernelIdeal (hKernelIdeal := hKernelIdeal)
    ∧ quiescent_KernelIdeal_pre_category_counts_at_most_32 (hKernelIdeal := hKernelIdeal) (hPre_category_counts_at_most_32 := hPre_category_counts_at_most_32)
    ∧ quiescent_ReferenceIdeal (hReferenceIdeal := hReferenceIdeal)
    ∧ quiescent_ReferenceIdeal_pre_category_counts_at_most_32 (hReferenceIdeal := hReferenceIdeal) (hPre_category_counts_at_most_32 := hPre_category_counts_at_most_32)
    ∧ preserves_Kernel_KernelIdeal
    ∧ algebraic_KernelIdeal_ReferenceIdeal_pre_category_counts_at_most_32 (hKernelIdeal := hKernelIdeal) (hReferenceIdeal := hReferenceIdeal) (hPre_category_counts_at_most_32 := hPre_category_counts_at_most_32)
-- ==== Pre_category_counts_at_most_32.lean ====
abbrev S4096x200x32 : Shape := ⟨3, ![4096, 200, 32]⟩
abbrev S4096x200 : Shape := ⟨2, ![4096, 200]⟩
abbrev S4096x5x32 : Shape := ⟨3, ![4096, 5, 32]⟩
abbrev S4096 : Shape := ⟨1, ![4096]⟩
abbrev S32x32 : Shape := ⟨2, ![32, 32]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x200x32 .f32) (main_arg1 : IVec S4096x200 1) (main_arg2 : FVec F S4096x5x32 .f32) (main_arg3 : IVec S4096 32) (main_arg4 : IVec S4096 32) (main_arg5 : FVec F S32x32 .f32) (main_arg6 : FVec F S32x32 .f32) : IVec S_ 1 :=
  let main_c : IVec S_ 32 := constantI S_ 32 32#32
  let main_v0 : IVec S4096 32 := broadcastInDim S4096 ![] bcast_S_S4096 main_c
  let main_v1 : IVec S4096 1 := cmpi .sle main_arg4 main_v0
  let main_c_0 : IVec S_ 1 := constantI S_ 1 1#1
  let main_v2 : IVec S_ 1 := (fun x v => Host.reduce IntOp.andi x v reducesTo_S4096_S_d0 h_S_) main_v1 main_c_0
  main_v2
-- ==== Kernel.lean ====
abbrev S4096x200x32 : Shape := ⟨3, ![4096, 200, 32]⟩
abbrev S4096x200 : Shape := ⟨2, ![4096, 200]⟩
abbrev S4096x5x32 : Shape := ⟨3, ![4096, 5, 32]⟩
abbrev S4096 : Shape := ⟨1, ![4096]⟩
abbrev S32x32 : Shape := ⟨2, ![32, 32]⟩
abbrev S_ : Shape := ⟨0, ![]⟩
abbrev S4112 : Shape := ⟨1, ![4112]⟩
abbrev S4096x1 : Shape := ⟨2, ![4096, 1]⟩
abbrev S4096x32x32 : Shape := ⟨3, ![4096, 32, 32]⟩
abbrev S32x1 : Shape := ⟨2, ![32, 1]⟩
abbrev S32x200x32 : Shape := ⟨3, ![32, 200, 32]⟩
abbrev S32x5x32 : Shape := ⟨3, ![32, 5, 32]⟩
abbrev S32x32x32 : Shape := ⟨3, ![32, 32, 32]⟩
abbrev S6400x32 : Shape := ⟨2, ![6400, 32]⟩
abbrev S32x1x32 : Shape := ⟨3, ![32, 1, 32]⟩
abbrev S32x1x1 : Shape := ⟨3, ![32, 1, 1]⟩
abbrev S1x200x32 : Shape := ⟨3, ![1, 200, 32]⟩
abbrev S200x32 : Shape := ⟨2, ![200, 32]⟩
abbrev S1x32x32 : Shape := ⟨3, ![1, 32, 32]⟩
abbrev S1x5x32 : Shape := ⟨3, ![1, 5, 32]⟩
abbrev S5x32 : Shape := ⟨2, ![5, 32]⟩
abbrev S655360 : Shape := ⟨1, ![655360]⟩
abbrev S4194304 : Shape := ⟨1, ![4194304]⟩
abbrev S1280 : Shape := ⟨1, ![1280]⟩
abbrev S16 : Shape := ⟨1, ![16]⟩
abbrev S8192 : Shape := ⟨1, ![8192]⟩

abbrev nBuf : Table → Nat
  | .hbm => 47
  | .local .tc .vmem => 12
  | .local .scVector .vmem => 7
  | _ => 0

abbrev bufTy : (tb : Table) → Fin (nBuf tb) → BufTy
  | .hbm, ⟨0, _⟩ => ⟨S4096x200x32, .f32⟩
  | .hbm, ⟨1, _⟩ => ⟨S4096x200, .i1⟩
  | .hbm, ⟨2, _⟩ => ⟨S4096x5x32, .f32⟩
  | .hbm, ⟨3, _⟩ => ⟨S4096, .i32⟩
  | .hbm, ⟨4, _⟩ => ⟨S4096, .i32⟩
  | .hbm, ⟨5, _⟩ => ⟨S32x32, .f32⟩
  | .hbm, ⟨6, _⟩ => ⟨S32x32, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .i1⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S_, .i32⟩
  | .hbm, ⟨37, _⟩ => ⟨S4112, .i32⟩
  | .hbm, ⟨38, _⟩ => ⟨S4096x1, .i32⟩
  | .hbm, ⟨39, _⟩ => ⟨S32x32, .f32⟩
  | .hbm, ⟨40, _⟩ => ⟨S32x32, .f32⟩
  | .hbm, ⟨41, _⟩ => ⟨S4096x32x32, .f32⟩
  | .hbm, ⟨42, _⟩ => ⟨S4096x5x32, .f32⟩
  | .hbm, ⟨43, _⟩ => ⟨S655360, .f32⟩
  | .hbm, ⟨44, _⟩ => ⟨S4194304, .f32⟩
  | .hbm, ⟨45, _⟩ => ⟨S655360, .f32⟩
  | .hbm, ⟨46, _⟩ => ⟨S4096x5x32, .f32⟩
  | .local .tc .vmem, ⟨0, _⟩ => ⟨S32x1, .i32⟩
  | .local .tc .vmem, ⟨1, _⟩ => ⟨S32x1, .i32⟩
  | .local .tc .vmem, ⟨2, _⟩ => ⟨S32x200x32, .f32⟩
  | .local .tc .vmem, ⟨3, _⟩ => ⟨S32x200x32, .f32⟩
  | .local .tc .vmem, ⟨4, _⟩ => ⟨S32x5x32, .f32⟩
  | .local .tc .vmem, ⟨5, _⟩ => ⟨S32x5x32, .f32⟩
  | .local .tc .vmem, ⟨6, _⟩ => ⟨S32x32, .f32⟩
  | .local .tc .vmem, ⟨7, _⟩ => ⟨S32x32, .f32⟩
  | .local .tc .vmem, ⟨8, _⟩ => ⟨S32x32x32, .f32⟩
  | .local .tc .vmem, ⟨9, _⟩ => ⟨S32x32x32, .f32⟩
  | .local .tc .vmem, ⟨10, _⟩ => ⟨S32x5x32, .f32⟩
  | .local .tc .vmem, ⟨11, _⟩ => ⟨S32x5x32, .f32⟩
  | .local .scVector .vmem, ⟨0, _⟩ => ⟨S1280, .f32⟩
  | .local .scVector .vmem, ⟨1, _⟩ => ⟨S16, .i32⟩
  | .local .scVector .vmem, ⟨2, _⟩ => ⟨S8192, .f32⟩
  | .local .scVector .vmem, ⟨3, _⟩ => ⟨S1280, .f32⟩
  | .local .scVector .vmem, ⟨4, _⟩ => ⟨S16, .f32⟩
  | .local .scVector .vmem, ⟨5, _⟩ => ⟨S16, .f32⟩
  | .local .scVector .vmem, ⟨6, _⟩ => ⟨S16, .i32⟩
  | _, _ => ⟨S4096x200x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_c_4 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v13 : Ref sig .tc := ⟨.hbm, 34, rfl⟩
abbrev main_c_5 : Ref sig .tc := ⟨.hbm, 35, rfl⟩
abbrev main_call2_v0 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18_0 : Ref sig .tc := ⟨.hbm, 41, rfl⟩
abbrev main_v18_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v19_scv : Ref sig .scVector := ⟨.hbm, 43, rfl⟩
abbrev main_v14_scv : Ref sig .scVector := ⟨.hbm, 37, rfl⟩
abbrev main_v20_scv : Ref sig .scVector := ⟨.hbm, 44, rfl⟩
abbrev main_v21_scv : Ref sig .scVector := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x200x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x5x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x5x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 16], ![false, false]⟩

@[reducible] def k1_t1_loop : Scf.Loop 32 :=
  let c0_i32_1 : BitVec 32 := 0#32
  let c16_i32 : BitVec 32 := 16#32
  let v8 : BitVec 32 := Scalar.addi c0_i32_1 c16_i32
  let c1_i32 : BitVec 32 := 1#32
  ⟨c0_i32_1, v8, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v9 : BitVec 32 := Scalar.muli v1 c128_i32
  let c0_i32_1 : BitVec 32 := 0#32
  let c1_i32 : BitVec 32 := 1#32
  let arg13 : BitVec 32 := Scf.iv c0_i32_1 c1_i32 k1_t1
  let c8_i32_3 : BitVec 32 := 8#32
  let v10 : BitVec 32 := Scalar.muli arg13 c8_i32_3
  let v11 : BitVec 32 := Scalar.addi v9 v10
  let c5_i32 : BitVec 32 := 5#32
  let v12 : BitVec 32 := Scalar.muli v11 c5_i32
  let c32_i32 : BitVec 32 := 32#32
  let v13 : BitVec 32 := Scalar.muli v12 c32_i32
  ![v13.toNat]
def k1_off2 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v9 : BitVec 32 := Scalar.muli v1 c128_i32
  let c0_i32_1 : BitVec 32 := 0#32
  let c1_i32 : BitVec 32 := 1#32
  let arg13 : BitVec 32 := Scf.iv c0_i32_1 c1_i32 k1_t1
  let c8_i32_3 : BitVec 32 := 8#32
  let v10 : BitVec 32 := Scalar.muli arg13 c8_i32_3
  let v11 : BitVec 32 := Scalar.addi v9 v10
  ![v11.toNat]
def k1_off3 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v9 : BitVec 32 := Scalar.muli v1 c128_i32
  let c0_i32_1 : BitVec 32 := 0#32
  let c1_i32 : BitVec 32 := 1#32
  let arg13 : BitVec 32 := Scf.iv c0_i32_1 c1_i32 k1_t1
  let c8_i32_3 : BitVec 32 := 8#32
  let v10 : BitVec 32 := Scalar.muli arg13 c8_i32_3
  let v11 : BitVec 32 := Scalar.addi v9 v10
  let c32_i32_4 : BitVec 32 := 32#32
  let v14 : BitVec 32 := Scalar.muli v11 c32_i32_4
  let c32_i32_5 : BitVec 32 := 32#32
  let v15 : BitVec 32 := Scalar.muli v14 c32_i32_5
  ![v15.toNat]
@[reducible] def k1_t2_loop : Scf.Loop 32 :=
  let c0_i32_7 : BitVec 32 := 0#32
  let c8_i32_8 : BitVec 32 := 8#32
  let v16 : BitVec 32 := Scalar.addi c0_i32_7 c8_i32_8
  let c1_i32_9 : BitVec 32 := 1#32
  ⟨c0_i32_7, v16, c1_i32_9⟩

def k1_chk1 (v19 : IVec S16 32) : Prop :=
  (∀ a x, ((![v19] : Fin 1 → IVec S16 32) a x).toNat < S16.size a)
theorem k1_idx1_inb : ∀ (v19 : IVec S16 32) (k1_hw1 : k1_chk1 v19), ∀ a x, ((![v19] : Fin 1 → IVec S16 32) a x).toNat < S16.size a := fun v19 k1_hw1 => k1_hw1
@[reducible] def k1_t3_loop : Scf.Loop 32 :=
  let c0_i32_13 : BitVec 32 := 0#32
  let c5_i32_14 : BitVec 32 := 5#32
  let v21 : BitVec 32 := Scalar.addi c0_i32_13 c5_i32_14
  let c1_i32_15 : BitVec 32 := 1#32
  ⟨c0_i32_13, v21, c1_i32_15⟩
def k1_off4 (k1_t2 : Fin k1_t2_loop.trips) (k1_t3 : Fin k1_t3_loop.trips) : Fin 1 → Nat :=
  let c0_i32_7 : BitVec 32 := 0#32
  let c1_i32_9 : BitVec 32 := 1#32
  let arg14 : BitVec 32 := Scf.iv c0_i32_7 c1_i32_9 k1_t2
  let c5_i32_17 : BitVec 32 := 5#32
  let v22 : BitVec 32 := Scalar.muli arg14 c5_i32_17
  let c0_i32_13 : BitVec 32 := 0#32
  let c1_i32_15 : BitVec 32 := 1#32
  let arg15 : BitVec 32 := Scf.iv c0_i32_13 c1_i32_15 k1_t3
  let v23 : BitVec 32 := Scalar.addi v22 arg15
  let c32_i32_18 : BitVec 32 := 32#32
  let v24 : BitVec 32 := Scalar.muli v23 c32_i32_18
  let v25 : Index := Scalar.indexCast v24
  ![v25.toNat]
def k1_off5 (k1_t2 : Fin k1_t2_loop.trips) (k1_t3 : Fin k1_t3_loop.trips) : Fin 1 → Nat :=
  let c0_i32_7 : BitVec 32 := 0#32
  let c1_i32_9 : BitVec 32 := 1#32
  let arg14 : BitVec 32 := Scf.iv c0_i32_7 c1_i32_9 k1_t2
  let c5_i32_17 : BitVec 32 := 5#32
  let v22 : BitVec 32 := Scalar.muli arg14 c5_i32_17
  let c0_i32_13 : BitVec 32 := 0#32
  let c1_i32_15 : BitVec 32 := 1#32
  let arg15 : BitVec 32 := Scf.iv c0_i32_13 c1_i32_15 k1_t3
  let v23 : BitVec 32 := Scalar.addi v22 arg15
  let c32_i32_18 : BitVec 32 := 32#32
  let v24 : BitVec 32 := Scalar.muli v23 c32_i32_18
  let c16_i32_19 : BitVec 32 := 16#32
  let v27 : BitVec 32 := Scalar.addi v24 c16_i32_19
  let v28 : Index := Scalar.indexCast v27
  ![v28.toNat]
@[reducible] def k1_t4_loop : Scf.Loop 32 :=
  let c0_i32_21 : BitVec 32 := 0#32
  let c16_i32_22 : BitVec 32 := 16#32
  let v32 : BitVec 32 := Scalar.addi c0_i32_21 c16_i32_22
  let c1_i32_23 : BitVec 32 := 1#32
  ⟨c0_i32_21, v32, c1_i32_23⟩

def k1_chk2 (v185 : IVec S16 32) : Prop :=
  (∀ a x, ((![v185] : Fin 1 → IVec S16 32) a x).toNat < S16.size a)
theorem k1_idx2_inb : ∀ (v185 : IVec S16 32) (k1_hw2 : k1_chk2 v185), ∀ a x, ((![v185] : Fin 1 → IVec S16 32) a x).toNat < S16.size a := fun v185 k1_hw2 => k1_hw2

def k1_chk3 (v33 : IVec S16 32) : Prop :=
  (∀ a x, ((![v33] : Fin 1 → IVec S16 32) a x).toNat < S16.size a) ∧
  (∀ a x, ((![v33] : Fin 1 → IVec S16 32) a x).toNat < S16.size a)
theorem k1_idx3_inb : ∀ (v33 : IVec S16 32) (k1_hw3 : k1_chk3 v33), ∀ a x, ((![v33] : Fin 1 → IVec S16 32) a x).toNat < S16.size a := fun v33 k1_hw3 => k1_hw3.1
theorem k1_idx4_inb : ∀ (v33 : IVec S16 32) (k1_hw3 : k1_chk3 v33), ∀ a x, ((![v33] : Fin 1 → IVec S16 32) a x).toNat < S16.size a := fun v33 k1_hw3 => k1_hw3.2
@[reducible] def k1_t5_loop : Scf.Loop 32 :=
  let c0_i32_32 : BitVec 32 := 0#32
  let c16_i32_33 : BitVec 32 := 16#32
  let v42 : BitVec 32 := Scalar.addi c0_i32_32 c16_i32_33
  let c1_i32_34 : BitVec 32 := 1#32
  ⟨c0_i32_32, v42, c1_i32_34⟩

def k1_chk4 (v185 : IVec S16 32) : Prop :=
  (∀ a x, ((![v185] : Fin 1 → IVec S16 32) a x).toNat < S16.size a)
theorem k1_idx5_inb : ∀ (v185 : IVec S16 32) (k1_hw4 : k1_chk4 v185), ∀ a x, ((![v185] : Fin 1 → IVec S16 32) a x).toNat < S16.size a := fun v185 k1_hw4 => k1_hw4

def k1_chk5 (v43 : IVec S16 32) : Prop :=
  (∀ a x, ((![v43] : Fin 1 → IVec S16 32) a x).toNat < S16.size a) ∧
  (∀ a x, ((![v43] : Fin 1 → IVec S16 32) a x).toNat < S16.size a)
theorem k1_idx6_inb : ∀ (v43 : IVec S16 32) (k1_hw5 : k1_chk5 v43), ∀ a x, ((![v43] : Fin 1 → IVec S16 32) a x).toNat < S16.size a := fun v43 k1_hw5 => k1_hw5.1
theorem k1_idx7_inb : ∀ (v43 : IVec S16 32) (k1_hw5 : k1_chk5 v43), ∀ a x, ((![v43] : Fin 1 → IVec S16 32) a x).toNat < S16.size a := fun v43 k1_hw5 => k1_hw5.2

def k1_chk6 (v7 : IVec S16 32) : Prop :=
  (∀ a x, ((![v7] : Fin 1 → IVec S16 32) a x).toNat < S16.size a) ∧
  (∀ a x, ((![v7] : Fin 1 → IVec S16 32) a x).toNat < S16.size a)
theorem k1_idx8_inb : ∀ (v7 : IVec S16 32) (k1_hw6 : k1_chk6 v7), ∀ a x, ((![v7] : Fin 1 → IVec S16 32) a x).toNat < S16.size a := fun v7 k1_hw6 => k1_hw6.1
theorem k1_idx9_inb : ∀ (v7 : IVec S16 32) (k1_hw6 : k1_chk6 v7), ∀ a x, ((![v7] : Fin 1 → IVec S16 32) a x).toNat < S16.size a := fun v7 k1_hw6 => k1_hw6.2
@[reducible] def k1_t6_loop : Scf.Loop 32 :=
  let c0_i32_40 : BitVec 32 := 0#32
  let c16_i32_41 : BitVec 32 := 16#32
  let v52 : BitVec 32 := Scalar.addi c0_i32_40 c16_i32_41
  let c1_i32_42 : BitVec 32 := 1#32
  ⟨c0_i32_40, v52, c1_i32_42⟩

def k1_chk7 (v185 : IVec S16 32) : Prop :=
  (∀ a x, ((![v185] : Fin 1 → IVec S16 32) a x).toNat < S16.size a)
theorem k1_idx10_inb : ∀ (v185 : IVec S16 32) (k1_hw7 : k1_chk7 v185), ∀ a x, ((![v185] : Fin 1 → IVec S16 32) a x).toNat < S16.size a := fun v185 k1_hw7 => k1_hw7

def k1_chk8 (v53 : IVec S16 32) : Prop :=
  (∀ a x, ((![v53] : Fin 1 → IVec S16 32) a x).toNat < S16.size a) ∧
  (∀ a x, ((![v53] : Fin 1 → IVec S16 32) a x).toNat < S16.size a)
theorem k1_idx11_inb : ∀ (v53 : IVec S16 32) (k1_hw8 : k1_chk8 v53), ∀ a x, ((![v53] : Fin 1 → IVec S16 32) a x).toNat < S16.size a := fun v53 k1_hw8 => k1_hw8.1
theorem k1_idx12_inb : ∀ (v53 : IVec S16 32) (k1_hw8 : k1_chk8 v53), ∀ a x, ((![v53] : Fin 1 → IVec S16 32) a x).toNat < S16.size a := fun v53 k1_hw8 => k1_hw8.2

def k1_chk9 (v63 : IVec S16 32) : Prop :=
  (∀ a x, ((![v63] : Fin 1 → IVec S16 32) a x).toNat < S16.size a)
theorem k1_idx13_inb : ∀ (v63 : IVec S16 32) (k1_hw9 : k1_chk9 v63), ∀ a x, ((![v63] : Fin 1 → IVec S16 32) a x).toNat < S16.size a := fun v63 k1_hw9 => k1_hw9

def k1_chk10 (v65 : IVec S16 32) : Prop :=
  (∀ a x, ((![v65] : Fin 1 → IVec S16 32) a x).toNat < S16.size a)
theorem k1_idx14_inb : ∀ (v65 : IVec S16 32) (k1_hw10 : k1_chk10 v65), ∀ a x, ((![v65] : Fin 1 → IVec S16 32) a x).toNat < S16.size a := fun v65 k1_hw10 => k1_hw10

def k1_chk11 (v73 : IVec S16 32) : Prop :=
  (∀ a x, ((![v73] : Fin 1 → IVec S16 32) a x).toNat < S8192.size a)
theorem k1_idx15_inb : ∀ (v73 : IVec S16 32) (k1_hw11 : k1_chk11 v73), ∀ a x, ((![v73] : Fin 1 → IVec S16 32) a x).toNat < S8192.size a := fun v73 k1_hw11 => k1_hw11

def k1_chk12 (v78 : IVec S16 32) : Prop :=
  (∀ a x, ((![v78] : Fin 1 → IVec S16 32) a x).toNat < S8192.size a)
theorem k1_idx16_inb : ∀ (v78 : IVec S16 32) (k1_hw12 : k1_chk12 v78), ∀ a x, ((![v78] : Fin 1 → IVec S16 32) a x).toNat < S8192.size a := fun v78 k1_hw12 => k1_hw12

def k1_chk13 (v82 : IVec S16 32) : Prop :=
  (∀ a x, ((![v82] : Fin 1 → IVec S16 32) a x).toNat < S16.size a)
theorem k1_idx17_inb : ∀ (v82 : IVec S16 32) (k1_hw13 : k1_chk13 v82), ∀ a x, ((![v82] : Fin 1 → IVec S16 32) a x).toNat < S16.size a := fun v82 k1_hw13 => k1_hw13

def k1_chk14 (v84 : IVec S16 32) : Prop :=
  (∀ a x, ((![v84] : Fin 1 → IVec S16 32) a x).toNat < S16.size a)
theorem k1_idx18_inb : ∀ (v84 : IVec S16 32) (k1_hw14 : k1_chk14 v84), ∀ a x, ((![v84] : Fin 1 → IVec S16 32) a x).toNat < S16.size a := fun v84 k1_hw14 => k1_hw14

def k1_chk15 (v92 : IVec S16 32) : Prop :=
  (∀ a x, ((![v92] : Fin 1 → IVec S16 32) a x).toNat < S8192.size a)
theorem k1_idx19_inb : ∀ (v92 : IVec S16 32) (k1_hw15 : k1_chk15 v92), ∀ a x, ((![v92] : Fin 1 → IVec S16 32) a x).toNat < S8192.size a := fun v92 k1_hw15 => k1_hw15

def k1_chk16 (v97 : IVec S16 32) : Prop :=
  (∀ a x, ((![v97] : Fin 1 → IVec S16 32) a x).toNat < S8192.size a)
theorem k1_idx20_inb : ∀ (v97 : IVec S16 32) (k1_hw16 : k1_chk16 v97), ∀ a x, ((![v97] : Fin 1 → IVec S16 32) a x).toNat < S8192.size a := fun v97 k1_hw16 => k1_hw16

def k1_chk17 (v101 : IVec S16 32) : Prop :=
  (∀ a x, ((![v101] : Fin 1 → IVec S16 32) a x).toNat < S16.size a)
theorem k1_idx21_inb : ∀ (v101 : IVec S16 32) (k1_hw17 : k1_chk17 v101), ∀ a x, ((![v101] : Fin 1 → IVec S16 32) a x).toNat < S16.size a := fun v101 k1_hw17 => k1_hw17

def k1_chk18 (v103 : IVec S16 32) : Prop :=
  (∀ a x, ((![v103] : Fin 1 → IVec S16 32) a x).toNat < S16.size a)
theorem k1_idx22_inb : ∀ (v103 : IVec S16 32) (k1_hw18 : k1_chk18 v103), ∀ a x, ((![v103] : Fin 1 → IVec S16 32) a x).toNat < S16.size a := fun v103 k1_hw18 => k1_hw18

def k1_chk19 (v111 : IVec S16 32) : Prop :=
  (∀ a x, ((![v111] : Fin 1 → IVec S16 32) a x).toNat < S8192.size a)
theorem k1_idx23_inb : ∀ (v111 : IVec S16 32) (k1_hw19 : k1_chk19 v111), ∀ a x, ((![v111] : Fin 1 → IVec S16 32) a x).toNat < S8192.size a := fun v111 k1_hw19 => k1_hw19

def k1_chk20 (v116 : IVec S16 32) : Prop :=
  (∀ a x, ((![v116] : Fin 1 → IVec S16 32) a x).toNat < S8192.size a)
theorem k1_idx24_inb : ∀ (v116 : IVec S16 32) (k1_hw20 : k1_chk20 v116), ∀ a x, ((![v116] : Fin 1 → IVec S16 32) a x).toNat < S8192.size a := fun v116 k1_hw20 => k1_hw20

def k1_chk21 (v120 : IVec S16 32) : Prop :=
  (∀ a x, ((![v120] : Fin 1 → IVec S16 32) a x).toNat < S16.size a)
theorem k1_idx25_inb : ∀ (v120 : IVec S16 32) (k1_hw21 : k1_chk21 v120), ∀ a x, ((![v120] : Fin 1 → IVec S16 32) a x).toNat < S16.size a := fun v120 k1_hw21 => k1_hw21

def k1_chk22 (v122 : IVec S16 32) : Prop :=
  (∀ a x, ((![v122] : Fin 1 → IVec S16 32) a x).toNat < S16.size a)
theorem k1_idx26_inb : ∀ (v122 : IVec S16 32) (k1_hw22 : k1_chk22 v122), ∀ a x, ((![v122] : Fin 1 → IVec S16 32) a x).toNat < S16.size a := fun v122 k1_hw22 => k1_hw22

def k1_chk23 (v130 : IVec S16 32) : Prop :=
  (∀ a x, ((![v130] : Fin 1 → IVec S16 32) a x).toNat < S8192.size a)
theorem k1_idx27_inb : ∀ (v130 : IVec S16 32) (k1_hw23 : k1_chk23 v130), ∀ a x, ((![v130] : Fin 1 → IVec S16 32) a x).toNat < S8192.size a := fun v130 k1_hw23 => k1_hw23

def k1_chk24 (v135 : IVec S16 32) : Prop :=
  (∀ a x, ((![v135] : Fin 1 → IVec S16 32) a x).toNat < S8192.size a)
theorem k1_idx28_inb : ∀ (v135 : IVec S16 32) (k1_hw24 : k1_chk24 v135), ∀ a x, ((![v135] : Fin 1 → IVec S16 32) a x).toNat < S8192.size a := fun v135 k1_hw24 => k1_hw24

def k1_chk25 (v139 : IVec S16 32) : Prop :=
  (∀ a x, ((![v139] : Fin 1 → IVec S16 32) a x).toNat < S16.size a)
theorem k1_idx29_inb : ∀ (v139 : IVec S16 32) (k1_hw25 : k1_chk25 v139), ∀ a x, ((![v139] : Fin 1 → IVec S16 32) a x).toNat < S16.size a := fun v139 k1_hw25 => k1_hw25

def k1_chk26 (v141 : IVec S16 32) : Prop :=
  (∀ a x, ((![v141] : Fin 1 → IVec S16 32) a x).toNat < S16.size a)
theorem k1_idx30_inb : ∀ (v141 : IVec S16 32) (k1_hw26 : k1_chk26 v141), ∀ a x, ((![v141] : Fin 1 → IVec S16 32) a x).toNat < S16.size a := fun v141 k1_hw26 => k1_hw26

def k1_chk27 (v149 : IVec S16 32) : Prop :=
  (∀ a x, ((![v149] : Fin 1 → IVec S16 32) a x).toNat < S8192.size a)
theorem k1_idx31_inb : ∀ (v149 : IVec S16 32) (k1_hw27 : k1_chk27 v149), ∀ a x, ((![v149] : Fin 1 → IVec S16 32) a x).toNat < S8192.size a := fun v149 k1_hw27 => k1_hw27

def k1_chk28 (v154 : IVec S16 32) : Prop :=
  (∀ a x, ((![v154] : Fin 1 → IVec S16 32) a x).toNat < S8192.size a)
theorem k1_idx32_inb : ∀ (v154 : IVec S16 32) (k1_hw28 : k1_chk28 v154), ∀ a x, ((![v154] : Fin 1 → IVec S16 32) a x).toNat < S8192.size a := fun v154 k1_hw28 => k1_hw28

def k1_chk29 (v158 : IVec S16 32) : Prop :=
  (∀ a x, ((![v158] : Fin 1 → IVec S16 32) a x).toNat < S16.size a)
theorem k1_idx33_inb : ∀ (v158 : IVec S16 32) (k1_hw29 : k1_chk29 v158), ∀ a x, ((![v158] : Fin 1 → IVec S16 32) a x).toNat < S16.size a := fun v158 k1_hw29 => k1_hw29

def k1_chk30 (v160 : IVec S16 32) : Prop :=
  (∀ a x, ((![v160] : Fin 1 → IVec S16 32) a x).toNat < S16.size a)
theorem k1_idx34_inb : ∀ (v160 : IVec S16 32) (k1_hw30 : k1_chk30 v160), ∀ a x, ((![v160] : Fin 1 → IVec S16 32) a x).toNat < S16.size a := fun v160 k1_hw30 => k1_hw30

def k1_chk31 (v168 : IVec S16 32) : Prop :=
  (∀ a x, ((![v168] : Fin 1 → IVec S16 32) a x).toNat < S8192.size a)
theorem k1_idx35_inb : ∀ (v168 : IVec S16 32) (k1_hw31 : k1_chk31 v168), ∀ a x, ((![v168] : Fin 1 → IVec S16 32) a x).toNat < S8192.size a := fun v168 k1_hw31 => k1_hw31

def k1_chk32 (v173 : IVec S16 32) : Prop :=
  (∀ a x, ((![v173] : Fin 1 → IVec S16 32) a x).toNat < S8192.size a)
theorem k1_idx36_inb : ∀ (v173 : IVec S16 32) (k1_hw32 : k1_chk32 v173), ∀ a x, ((![v173] : Fin 1 → IVec S16 32) a x).toNat < S8192.size a := fun v173 k1_hw32 => k1_hw32
def k1_off6 (k1_t2 : Fin k1_t2_loop.trips) (k1_t3 : Fin k1_t3_loop.trips) : Fin 1 → Nat :=
  let c0_i32_7 : BitVec 32 := 0#32
  let c1_i32_9 : BitVec 32 := 1#32
  let arg14 : BitVec 32 := Scf.iv c0_i32_7 c1_i32_9 k1_t2
  let c5_i32_84 : BitVec 32 := 5#32
  let v177 : BitVec 32 := Scalar.muli arg14 c5_i32_84
  let c0_i32_13 : BitVec 32 := 0#32
  let c1_i32_15 : BitVec 32 := 1#32
  let arg15 : BitVec 32 := Scf.iv c0_i32_13 c1_i32_15 k1_t3
  let v178 : BitVec 32 := Scalar.addi v177 arg15
  let c32_i32_85 : BitVec 32 := 32#32
  let v179 : BitVec 32 := Scalar.muli v178 c32_i32_85
  let v180 : Index := Scalar.indexCast v179
  ![v180.toNat]
def k1_off7 (k1_t2 : Fin k1_t2_loop.trips) (k1_t3 : Fin k1_t3_loop.trips) : Fin 1 → Nat :=
  let c0_i32_7 : BitVec 32 := 0#32
  let c1_i32_9 : BitVec 32 := 1#32
  let arg14 : BitVec 32 := Scf.iv c0_i32_7 c1_i32_9 k1_t2
  let c5_i32_84 : BitVec 32 := 5#32
  let v177 : BitVec 32 := Scalar.muli arg14 c5_i32_84
  let c0_i32_13 : BitVec 32 := 0#32
  let c1_i32_15 : BitVec 32 := 1#32
  let arg15 : BitVec 32 := Scf.iv c0_i32_13 c1_i32_15 k1_t3
  let v178 : BitVec 32 := Scalar.addi v177 arg15
  let c32_i32_85 : BitVec 32 := 32#32
  let v179 : BitVec 32 := Scalar.muli v178 c32_i32_85
  let c16_i32_86 : BitVec 32 := 16#32
  let v182 : BitVec 32 := Scalar.addi v179 c16_i32_86
  let v183 : Index := Scalar.indexCast v182
  ![v183.toNat]
def k1_off8 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v9 : BitVec 32 := Scalar.muli v1 c128_i32
  let c0_i32_1 : BitVec 32 := 0#32
  let c1_i32 : BitVec 32 := 1#32
  let arg13 : BitVec 32 := Scf.iv c0_i32_1 c1_i32 k1_t1
  let c8_i32_3 : BitVec 32 := 8#32
  let v10 : BitVec 32 := Scalar.muli arg13 c8_i32_3
  let v11 : BitVec 32 := Scalar.addi v9 v10
  let c5_i32_11 : BitVec 32 := 5#32
  let v17 : BitVec 32 := Scalar.muli v11 c5_i32_11
  let c32_i32_12 : BitVec 32 := 32#32
  let v18 : BitVec 32 := Scalar.muli v17 c32_i32_12
  ![v18.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200x32 : Shape := ⟨3, ![4096, 200, 32]⟩
abbrev S4096x200 : Shape := ⟨2, ![4096, 200]⟩
abbrev S4096x5x32 : Shape := ⟨3, ![4096, 5, 32]⟩
abbrev S4096 : Shape := ⟨1, ![4096]⟩
abbrev S32x32 : Shape := ⟨2, ![32, 32]⟩
abbrev S4096x32x200 : Shape := ⟨3, ![4096, 32, 200]⟩
abbrev S32 : Shape := ⟨1, ![32]⟩
abbrev S1x32 : Shape := ⟨2, ![1, 32]⟩
abbrev S4096x1 : Shape := ⟨2, ![4096, 1]⟩
abbrev S4096x32 : Shape := ⟨2, ![4096, 32]⟩
abbrev S4096x32x1 : Shape := ⟨3, ![4096, 32, 1]⟩
abbrev S_ : Shape := ⟨0, ![]⟩
abbrev S4096x32x32 : Shape := ⟨3, ![4096, 32, 32]⟩
abbrev S4096x1x1 : Shape := ⟨3, ![4096, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S4096x200x32, .f32⟩
  | .hbm, ⟨1, _⟩ => ⟨S4096x200, .i1⟩
  | .hbm, ⟨2, _⟩ => ⟨S4096x5x32, .f32⟩
  | .hbm, ⟨3, _⟩ => ⟨S4096, .i32⟩
  | .hbm, ⟨4, _⟩ => ⟨S4096, .i32⟩
  | .hbm, ⟨5, _⟩ => ⟨S32x32, .f32⟩
  | .hbm, ⟨6, _⟩ => ⟨S32x32, .f32⟩
  | .hbm, ⟨7, _⟩ => ⟨S4096x200x32, .f32⟩
  | .hbm, ⟨8, _⟩ => ⟨S4096x200x32, .f32⟩
  | .hbm, ⟨9, _⟩ => ⟨S4096x200x32, .f32⟩
  | .hbm, ⟨10, _⟩ => ⟨S4096x32x200, .f32⟩
  | .hbm, ⟨11, _⟩ => ⟨S32, .i32⟩
  | .hbm, ⟨12, _⟩ => ⟨S1x32, .i32⟩
  | .hbm, ⟨13, _⟩ => ⟨S4096x1, .i32⟩
  | .hbm, ⟨14, _⟩ => ⟨S4096x32, .i32⟩
  | .hbm, ⟨15, _⟩ => ⟨S4096x32, .i32⟩
  | .hbm, ⟨16, _⟩ => ⟨S4096x32, .i1⟩
  | .hbm, ⟨17, _⟩ => ⟨S4096x32x1, .i1⟩
  | .hbm, ⟨18, _⟩ => ⟨S_, .f32⟩
  | .hbm, ⟨19, _⟩ => ⟨S4096x32x200, .i1⟩
  | .hbm, ⟨20, _⟩ => ⟨S4096x32x200, .f32⟩
  | .hbm, ⟨21, _⟩ => ⟨S4096x32x200, .f32⟩
  | .hbm, ⟨22, _⟩ => ⟨S_, .f32⟩
  | .hbm, ⟨23, _⟩ => ⟨S4096x32, .f32⟩
  | .hbm, ⟨24, _⟩ => ⟨S_, .f32⟩
  | .hbm, ⟨25, _⟩ => ⟨S4096x32, .f32⟩
  | .hbm, ⟨26, _⟩ => ⟨S4096x32, .f32⟩
  | .hbm, ⟨27, _⟩ => ⟨S4096x32x1, .f32⟩
  | .hbm, ⟨28, _⟩ => ⟨S4096x32x200, .f32⟩
  | .hbm, ⟨29, _⟩ => ⟨S4096x32x200, .f32⟩
  | .hbm, ⟨30, _⟩ => ⟨S4096x32x200, .f32⟩
  | .hbm, ⟨31, _⟩ => ⟨S_, .f32⟩
  | .hbm, ⟨32, _⟩ => ⟨S4096x32, .f32⟩
  | .hbm, ⟨33, _⟩ => ⟨S4096x32x1, .f32⟩
  | .hbm, ⟨34, _⟩ => ⟨S4096x32x200, .f32⟩
  | .hbm, ⟨35, _⟩ => ⟨S4096x32x200, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096x32x200, .i1⟩
  | .hbm, ⟨40, _⟩ => ⟨S_, .f32⟩
  | .hbm, ⟨41, _⟩ => ⟨S4096x32x200, .f32⟩
  | .hbm, ⟨42, _⟩ => ⟨S4096x32x200, .f32⟩
  | .hbm, ⟨43, _⟩ => ⟨S_, .f32⟩
  | .hbm, ⟨44, _⟩ => ⟨S4096x32x200, .f32⟩
  | .hbm, ⟨45, _⟩ => ⟨S4096x32x200, .i1⟩
  | .hbm, ⟨46, _⟩ => ⟨S_, .f32⟩
  | .hbm, ⟨47, _⟩ => ⟨S4096x32x200, .f32⟩
  | .hbm, ⟨48, _⟩ => ⟨S4096x32x200, .f32⟩
  | .hbm, ⟨49, _⟩ => ⟨S_, .f32⟩
  | .hbm, ⟨50, _⟩ => ⟨S4096x32x200, .f32⟩
  | .hbm, ⟨51, _⟩ => ⟨S4096x32x200, .i1⟩
  | .hbm, ⟨52, _⟩ => ⟨S_, .f32⟩
  | .hbm, ⟨53, _⟩ => ⟨S4096x32x200, .f32⟩
  | .hbm, ⟨54, _⟩ => ⟨S4096x32x200, .f32⟩
  | .hbm, ⟨55, _⟩ => ⟨S4096x32x32, .f32⟩
  | .hbm, ⟨56, _⟩ => ⟨S4096x5x32, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .i1⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S4096, .f32⟩
  | .hbm, ⟨72, _⟩ => ⟨S_, .f32⟩
  | .hbm, ⟨73, _⟩ => ⟨S_, .f32⟩
  | .hbm, ⟨74, _⟩ => ⟨S4096, .f32⟩
  | .hbm, ⟨75, _⟩ => ⟨S4096, .f32⟩
  | .hbm, ⟨76, _⟩ => ⟨S4096, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S4096, .i32⟩
  | .hbm, ⟨81, _⟩ => ⟨S4096, .i32⟩
  | .hbm, ⟨82, _⟩ => ⟨S_, .i32⟩
  | .hbm, ⟨83, _⟩ => ⟨S4096, .i32⟩
  | .hbm, ⟨84, _⟩ => ⟨S4096, .i32⟩
  | .hbm, ⟨85, _⟩ => ⟨S4096x5x32, .f32⟩
  | .hbm, ⟨86, _⟩ => ⟨S4096x5x32, .i32⟩
  | .hbm, ⟨87, _⟩ => ⟨S4096x5x32, .f32⟩
  | .hbm, ⟨88, _⟩ => ⟨S4096x5x32, .i32⟩
  | .hbm, ⟨89, _⟩ => ⟨S4096x5x32, .i32⟩
  | .hbm, ⟨90, _⟩ => ⟨S4096x5x32, .i32⟩
  | .hbm, ⟨91, _⟩ => ⟨S4096x5x32, .i32⟩
  | .hbm, ⟨92, _⟩ => ⟨S4096x1x1, .i32⟩
  | .hbm, ⟨93, _⟩ => ⟨S4096x5x32, .i32⟩
  | .hbm, ⟨94, _⟩ => ⟨S4096x5x32, .i1⟩
  | .hbm, ⟨95, _⟩ => ⟨S4096x5x32, .f32⟩
  | .hbm, ⟨96, _⟩ => ⟨S4096x5x32, .f32⟩
  | .hbm, ⟨97, _⟩ => ⟨S4096x5x32, .f32⟩
  | _, _ => ⟨S4096x200x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_cst_4 : Ref sig .tc := ⟨.hbm, 37, rfl⟩
abbrev main_cst_5 : Ref sig .tc := ⟨.hbm, 38, rfl⟩
abbrev main_call1_v0 : Ref sig .tc := ⟨.hbm, 39, rfl⟩
abbrev main_call1_v1 : Ref sig .tc := ⟨.hbm, 40, rfl⟩
abbrev main_call1_call0_v0 : Ref sig .tc := ⟨.hbm, 41, rfl⟩
abbrev main_call1_v2 : Ref sig .tc := ⟨.hbm, 42, rfl⟩
abbrev main_call1_cst : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_call1_v0 : Ref sig .tc := ⟨.hbm, 47, rfl⟩
abbrev main_call1_v6 : Ref sig .tc := ⟨.hbm, 48, rfl⟩
abbrev main_call1_cst_0 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_call2_v0 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_6 : Ref sig .tc := ⟨.hbm, 58, rfl⟩
abbrev main_v27 : Ref sig .tc := ⟨.hbm, 59, rfl⟩
abbrev main_v28 : Ref sig .tc := ⟨.hbm, 60, rfl⟩
abbrev main_cst_7 : Ref sig .tc := ⟨.hbm, 61, rfl⟩
abbrev main_v29 : Ref sig .tc := ⟨.hbm, 62, rfl⟩
abbrev main_v30 : Ref sig .tc := ⟨.hbm, 63, rfl⟩
abbrev main_cst_8 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_9 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_10 : Ref sig .tc := ⟨.hbm, 72, rfl⟩
abbrev main_call2_v0 : Ref sig .tc := ⟨.hbm, 73, rfl⟩
abbrev main_call2_v1 : Ref sig .tc := ⟨.hbm, 74, rfl⟩
abbrev main_v37 : Ref sig .tc := ⟨.hbm, 75, rfl⟩
abbrev main_v38 : Ref sig .tc := ⟨.hbm, 76, rfl⟩
abbrev main_c : Ref sig .tc := ⟨.hbm, 77, rfl⟩
abbrev main_c_11 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_v39 : Ref sig .tc := ⟨.hbm, 84, rfl⟩
abbrev main_v40 : Ref sig .tc := ⟨.hbm, 85, rfl⟩
abbrev main_call4_v0 : Ref sig .tc := ⟨.hbm, 86, rfl⟩
abbrev main_call4_v1_0 : Ref sig .tc := ⟨.hbm, 87, rfl⟩
abbrev main_v41 : Ref sig .tc := ⟨.hbm, 88, rfl⟩
abbrev main_call5_v0 : Ref sig .tc := ⟨.hbm, 89, rfl⟩
abbrev main_call5_v1_0 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩

abbrev nD : Nat := 1
abbrev τ : Topo := Topo.v7x

variable {F : FTy → Type} [FloatOps F]
-- ==== Proof.Base.lean ====
/-
  The setting of the proof: the program as the launch theorem of the SparseCore library sees it, the resource algebra, and the
  buffers of one vector subcore's task with the points-to assertions over them.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The buffers of a task -/

abbrev cV (L : grid1.Coords) : Fin τ.nSC := (L 0).castLE hcore1
abbrev jV (L : grid1.Coords) : Fin τ.nSub := (L 1).castLE hsub1
/-- The thread that runs the task at coordinates `L` of device `d`. -/
abbrev th (d : Dev nD) (L : grid1.Coords) : Thread nD τ := V d (cV L) (jV L)

abbrev awH : Memref sig .scVector .hbm S655360 .f32 := Memref.whole main_v19_scv
abbrev dkH : Memref sig .scVector .hbm S4112 .i32 := Memref.whole main_v14_scv
abbrev inH : Memref sig .scVector .hbm S4194304 .f32 := Memref.whole main_v20_scv
abbrev ouH : Memref sig .scVector .hbm S655360 .f32 := Memref.whole main_v21_scv
abbrev awV : Memref sig .scVector .vmem S1280 .f32 := Memref.whole cc1_scratch0
abbrev dkV : Memref sig .scVector .vmem S16 .i32 := Memref.whole cc1_scratch1
abbrev inV : Memref sig .scVector .vmem S8192 .f32 := Memref.whole cc1_scratch2
abbrev ouV : Memref sig .scVector .vmem S1280 .f32 := Memref.whole cc1_scratch3
abbrev kyV : Memref sig .scVector .vmem S16 .f32 := Memref.whole cc1_scratch4
abbrev skV : Memref sig .scVector .vmem S16 .f32 := Memref.whole cc1_scratch5
abbrev svV : Memref sig .scVector .vmem S16 .i32 := Memref.whole cc1_scratch6

abbrev awP (d : Dev nD) (L : grid1.Coords) (f : Vec F S1280 .f32) : sProp 𝕄 := (awV).view.loc (th d L) ↦{fullShare} f
abbrev dkP (d : Dev nD) (L : grid1.Coords) (f : Vec F S16 .i32) : sProp 𝕄 := (dkV).view.loc (th d L) ↦{fullShare} f
abbrev inP (d : Dev nD) (L : grid1.Coords) (f : Vec F S8192 .f32) : sProp 𝕄 := (inV).view.loc (th d L) ↦{fullShare} f
abbrev ouP (d : Dev nD) (L : grid1.Coords) (f : Vec F S1280 .f32) : sProp 𝕄 := (ouV).view.loc (th d L) ↦{fullShare} f
abbrev kyP (d : Dev nD) (L : grid1.Coords) (f : Vec F S16 .f32) : sProp 𝕄 := (kyV).view.loc (th d L) ↦{fullShare} f
abbrev skP (d : Dev nD) (L : grid1.Coords) (f : Vec F S16 .f32) : sProp 𝕄 := (skV).view.loc (th d L) ↦{fullShare} f
abbrev svP (d : Dev nD) (L : grid1.Coords) (f : Vec F S16 .i32) : sProp 𝕄 := (svV).view.loc (th d L) ↦{fullShare} f

end Cert.Proof.Run

end
-- ==== Proof.TcBody.lean ====
/-
  The TensorCore's kernel: its body run by the executor, and what it leaves in the two staging buffers as a function of the blocks
  it was handed.  A block holds thirty-two users; each user's interests and weights are one piece of the buffers.
-/
module

public import proofs.«01_k».proof.Proof.Base
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F]

/-- Memref `M`'s buffer on the TensorCore of device `c`: its contents type, and it held whole at `f`. -/
abbrev Bf (c : Dev nD) {sp : Space} {S : Shape} {e : EltTy} (M : Memref sig .tc sp S e) : Type := Buf (Elt F) (M.view.loc (SparseCore.T (τ := τ) c))
abbrev pt (c : Dev nD) {sp : Space} {S : Shape} {e : EltTy} (M : Memref sig .tc sp S e) (f : Bf (F := F) c M) : sProp 𝕄 :=
  M.view.loc (SparseCore.T (τ := τ) c) ↦{fullShare} f

/-! ## The body, run -/

/-- What the body leaves in the two results' staging buffers, with the proof that from all seven buffers held whole the body runs to
    its return, handing back the five inputs as they were. -/
def bodyRun (c : Dev nD) (i : grid0.Coords) (arg1 : Memref sig .tc .vmem S32x1 .i32) (harg1 : arg1.IsWhole) (arg2 : Memref sig .tc .vmem S32x200x32 .f32) (harg2 : arg2.IsWhole) (arg3 : Memref sig .tc .vmem S32x5x32 .f32) (harg3 : arg3.IsWhole) (arg4 : Memref sig .tc .vmem S32x32 .f32) (harg4 : arg4.IsWhole) (arg5 : Memref sig .tc .vmem S32x32 .f32) (harg5 : arg5.IsWhole) (arg6 : Memref sig .tc .vmem S32x32x32 .f32) (harg6 : arg6.IsWhole) (arg7 : Memref sig .tc .vmem S32x5x32 .f32) (harg7 : arg7.IsWhole)
    (f1 : Bf (F := F) c arg1) (f2 : Bf (F := F) c arg2) (f3 : Bf (F := F) c arg3) (f4 : Bf (F := F) c arg4) (f5 : Bf (F := F) c arg5) :
    { W : Bf (F := F) c arg6 × Bf (F := F) c arg7 // ∀ (f6 : Bf (F := F) c arg6) (f7 : Bf (F := F) c arg7) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7
           ∗ (iprop(pt c arg1 f1 ∗ pt c arg2 f2 ∗ pt c arg3 f3 ∗ pt c arg4 f4 ∗ pt c arg5 f5 ∗ pt c arg6 W.1 ∗ pt c arg7 W.2) -∗ Q ⟨⟩))
          ⊢ wp frame (wpE (defs₀ (F := F)) 𝒱₀ (SparseCore.T c) none) E (cc0__tc_body i arg1 harg1 arg2 harg2 arg3 harg3 arg4 harg4 arg5 harg5 arg6 harg6 arg7 harg7) Q } := by
  refine ⟨(?_, ?_), fun f6 f7 E Q => ?run⟩
  case run =>
    iintro ⟨H1, H2, H3, H4, H5, H6, H7, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    iexact H7

/-! ## What a user's pieces are -/

/-- The index of a three-axis shape at three coordinates. -/
abbrev ix3 {n k l : ℕ} (a : Fin n) (b : Fin k) (c : Fin l) : (⟨3, ![n, k, l]⟩ : Shape).Idx := fun q => match q with | 0 => a | 1 => b | 2 => c

theorem slB (b : Fin 32) : S32x200x32.Slices ![b.val, 0, 0] S1x200x32 :=
  ⟨rfl, fun a => by fin_cases a <;> simp [S32x200x32, S1x200x32] <;> omega⟩
theorem inbH (b : Fin 32) : ∀ a, (![b.val, 0, 0] : Fin 3 → ℕ) a + S1x200x32.size a ≤ S32x200x32.size a :=
  fun a => by fin_cases a <;> simp [S32x200x32, S1x200x32] <;> omega
theorem inbC (b : Fin 32) : ∀ a, (![b.val, 0, 0] : Fin 3 → ℕ) a + S1x5x32.size a ≤ S32x5x32.size a :=
  fun a => by fin_cases a <;> simp [S32x5x32, S1x5x32] <;> omega
theorem inbI (b : Fin 32) : ∀ a, (![b.val, 0, 0] : Fin 3 → ℕ) a + S1x32x32.size a ≤ S32x32x32.size a :=
  fun a => by fin_cases a <;> simp [S32x32x32, S1x32x32] <;> omega

/-- User `b`'s interests, of the block's softmax weights `v` and histories `x2`. -/
def userI (v x2 : FVec F S32x200x32 .f32) (b : Fin 32) : FVec F S32x32 .f32 :=
  matmul dot_S200x32_S200x32_S32x32_0_0_1_1_n_n none
    (shapeCast S200x32 (extractStridedSlice S1x200x32 ![b.val, 0, 0] v (slB b)) shapeCasts_S1x200x32_S200x32)
    (shapeCast S200x32 (View.ld (Val := Elt F) (e' := .f32) x2 (Rect.unit (s := S32x200x32) ![b.val, 0, 0] S1x200x32.size (inbH b))) shapeCasts_S1x200x32_S200x32)
    (constant S32x32 .f32 0x00000000#32)
/-- User `b`'s candidates against its interests. -/
def userA (v x2 : FVec F S32x200x32 .f32) (x3 : FVec F S32x5x32 .f32) (b : Fin 32) : FVec F S5x32 .f32 :=
  matmul dot_S5x32_S32x32_S5x32_1_1_0_0_n_n none
    (shapeCast S5x32 (View.ld (Val := Elt F) (e' := .f32) x3 (Rect.unit (s := S32x5x32) ![b.val, 0, 0] S1x5x32.size (inbC b))) shapeCasts_S1x5x32_S5x32)
    (userI v x2 b) (constant S5x32 .f32 0x00000000#32)
def pieceI (v x2 : FVec F S32x200x32 .f32) (b : Fin 32) : FVec F S1x32x32 .f32 := shapeCast S1x32x32 (userI v x2 b) shapeCasts_S32x32_S1x32x32
def pieceA (v x2 : FVec F S32x200x32 .f32) (x3 : FVec F S32x5x32 .f32) (b : Fin 32) : FVec F S1x5x32 .f32 :=
  shapeCast S1x5x32 (userA v x2 x3 b) shapeCasts_S5x32_S1x5x32

/-- The thirty-two users' pieces side by side, of the softmax weights and the histories. -/
def rowsI (v x2 : FVec F S32x200x32 .f32) : FVec F S32x32x32 .f32 := fun y => pieceI v x2 (y 0) (ix3 0 (y 1) (y 2))
def rowsA (v x2 : FVec F S32x200x32 .f32) (x3 : FVec F S32x5x32 .f32) : FVec F S32x5x32 .f32 := fun y => pieceA v x2 x3 (y 0) (ix3 0 (y 1) (y 2))
/-- The interests of a block's thirty-two users. -/
def tcI (x1 : IVec S32x1 32) (x2 : FVec F S32x200x32 .f32) (x4 x5 : FVec F S32x32 .f32) : FVec F S32x32x32 .f32 := rowsI (k0_pay2 x2 x4 x5 x1) x2
/-- The weights of a block's candidates. -/
def tcA (x1 : IVec S32x1 32) (x2 : FVec F S32x200x32 .f32) (x3 : FVec F S32x5x32 .f32) (x4 x5 : FVec F S32x32 .f32) : FVec F S32x5x32 .f32 :=
  rowsA (k0_pay2 x2 x4 x5 x1) x2 x3

abbrev pcI (v x2 : FVec F S32x200x32 .f32) (b : Fin 32) : View.Piece (Elt F) S32x32x32 .f32 :=
  ⟨Rect.unit (s := S32x32x32) ![b.val, 0, 0] S1x32x32.size (inbI b), pieceI v x2 b⟩
abbrev pcA (v x2 : FVec F S32x200x32 .f32) (x3 : FVec F S32x5x32 .f32) (b : Fin 32) : View.Piece (Elt F) S32x5x32 .f32 :=
  ⟨Rect.unit (s := S32x5x32) ![b.val, 0, 0] S1x5x32.size (inbC b), pieceA v x2 x3 b⟩

/-- The users, last first. -/
abbrev users : List (Fin 32) := [31, 30, 29, 28, 27, 26, 25, 24, 23, 22, 21, 20, 19, 18, 17, 16, 15, 14, 13, 12, 11, 10, 9, 8, 7, 6, 5, 4, 3, 2, 1, 0]
theorem mem_users (b : Fin 32) : b ∈ users := by revert b; decide

/-- An index of the piece at user `b`, set into the whole array: the user, and the other two coordinates as they are. -/
theorem emb3 {m n k : ℕ} (b : Fin m) (inb : ∀ a, (![b.val, 0, 0] : Fin 3 → ℕ) a + (⟨3, ![1, n, k]⟩ : Shape).size a ≤ (⟨3, ![m, n, k]⟩ : Shape).size a)
    (x : (⟨3, ![1, n, k]⟩ : Shape).Idx) : (Rect.unit (s := ⟨3, ![m, n, k]⟩) ![b.val, 0, 0] ![1, n, k] inb).emb x = ix3 b (x 1) (x 2) := by
  have h0 : (x 0).val < 1 := (x 0).isLt
  funext a
  fin_cases a <;> refine Fin.ext ?_
  · show b.val + 1 * (x 0).val = b.val; omega
  · show 0 + 1 * (x 1).val = (x 1).val; omega
  · show 0 + 1 * (x 2).val = (x 2).val; omega

theorem canon_pieces {n k : ℕ} (inb : ∀ b : Fin 32, ∀ a, (![b.val, 0, 0] : Fin 3 → ℕ) a + (⟨3, ![1, n, k]⟩ : Shape).size a ≤ (⟨3, ![32, n, k]⟩ : Shape).size a)
    (g : Fin 32 → FVec F ⟨3, ![1, n, k]⟩ .f32) :
    View.canon (users.map fun b => (⟨Rect.unit (s := ⟨3, ![32, n, k]⟩) ![b.val, 0, 0] ![1, n, k] (inb b), g b⟩ : View.Piece (Elt F) ⟨3, ![32, n, k]⟩ .f32))
      = (fun y => g (y 0) (ix3 0 (y 1) (y 2)) : FVec F ⟨3, ![32, n, k]⟩ .f32) := by
  funext y
  refine View.canon_apply_of_pieces (Val := Elt F) (e := .f32) (fun y : (⟨3, ![32, n, k]⟩ : Shape).Idx => g (y 0) (ix3 0 (y 1) (y 2))) _ ?_ y ?_
  · intro p hp
    obtain ⟨b, -, rfl⟩ := List.mem_map.1 hp
    intro x
    have h0 : (x 0).val < 1 := (x 0).isLt
    have hx : (x : (⟨3, ![1, n, k]⟩ : Shape).Idx) = ix3 0 (x 1) (x 2) := by
      funext a; fin_cases a
      · exact Fin.ext (by show (x 0).val = 0; omega)
      · rfl
      · rfl
    show g b x = _
    rw [emb3 b (inb b) x]
    exact congrArg (g b) hx
  · refine ⟨_, List.mem_map.2 ⟨y 0, mem_users _, rfl⟩, ?_⟩
    have h : (Rect.unit (s := ⟨3, ![32, n, k]⟩) ![(y 0).val, 0, 0] ![1, n, k] (inb (y 0))).emb (ix3 0 (y 1) (y 2)) = y :=
      (emb3 (m := 32) (n := n) (k := k) (y 0) (inb (y 0)) (ix3 0 (y 1) (y 2))).trans (by funext a; fin_cases a <;> rfl)
    rw [← Rect.map_emb_univ]
    exact Finset.mem_map.2 ⟨_, Finset.mem_univ _, h⟩

variable (c : Dev nD) (i : grid0.Coords) (arg1 : Memref sig .tc .vmem S32x1 .i32) (harg1 : arg1.IsWhole) (arg2 : Memref sig .tc .vmem S32x200x32 .f32) (harg2 : arg2.IsWhole) (arg3 : Memref sig .tc .vmem S32x5x32 .f32) (harg3 : arg3.IsWhole) (arg4 : Memref sig .tc .vmem S32x32 .f32) (harg4 : arg4.IsWhole) (arg5 : Memref sig .tc .vmem S32x32 .f32) (harg5 : arg5.IsWhole) (arg6 : Memref sig .tc .vmem S32x32x32 .f32) (harg6 : arg6.IsWhole) (arg7 : Memref sig .tc .vmem S32x5x32 .f32) (harg7 : arg7.IsWhole)
    (f1 : Bf (F := F) c arg1) (f2 : Bf (F := F) c arg2) (f3 : Bf (F := F) c arg3) (f4 : Bf (F := F) c arg4) (f5 : Bf (F := F) c arg5)

theorem read_zero2 {κ : Kind} {sp : Space} {n k : ℕ} {e : EltTy} (V : View sig κ sp ⟨2, ![n, k]⟩ e) (f : V.ty.Contents (Elt F)) (inb) :
    View.readAt (Elt F) V (Rect.unit (s := ⟨2, ![n, k]⟩) ![0, 0] ![n, k] inb).toLoadRect f = V.read (Elt F) f :=
  View.ld_unit_zero (S := ⟨2, ![n, k]⟩) (by funext a; fin_cases a <;> rfl) inb (V.read (Elt F) f)
theorem read_zero3 {κ : Kind} {sp : Space} {n k l : ℕ} {e : EltTy} (V : View sig κ sp ⟨3, ![n, k, l]⟩ e) (f : V.ty.Contents (Elt F)) (inb) :
    View.readAt (Elt F) V (Rect.unit (s := ⟨3, ![n, k, l]⟩) ![0, 0, 0] ![n, k, l] inb).toLoadRect f = V.read (Elt F) f :=
  View.ld_unit_zero (S := ⟨3, ![n, k, l]⟩) (by funext a; fin_cases a <;> rfl) inb (V.read (Elt F) f)

theorem r_eq : bodyRun.sl.r c arg1 arg2 arg4 arg5 f1 f2 f4 f5
    = k0_pay2 (arg2.view.read (Elt F) f2) (arg4.view.read (Elt F) f4) (arg5.view.read (Elt F) f5) (arg1.view.read (Elt F) f1) := by
  unfold bodyRun.sl.r
  rw [← read_zero3 arg2.view f2 inb_S32x200x32_S32x200x32_0_0_0, ← read_zero2 arg4.view f4 inb_S32x32_S32x32_0_0,
    ← read_zero2 arg5.view f5 inb_S32x32_S32x32_0_0, ← read_zero2 arg1.view f1 inb_S32x1_S32x1_0_0]

theorem bodyI_eq : arg6.view.read (Elt F) (bodyRun c i arg1 harg1 arg2 harg2 arg3 harg3 arg4 harg4 arg5 harg5 arg6 harg6 arg7 harg7 f1 f2 f3 f4 f5).1.1
    = tcI (arg1.view.read (Elt F) f1) (arg2.view.read (Elt F) f2) (arg4.view.read (Elt F) f4) (arg5.view.read (Elt F) f5) := by
  have h : bodyRun.sl.H6_32 c arg1 arg2 arg4 arg5 f1 f2 f4 f5
      = users.map (pcI (bodyRun.sl.r c arg1 arg2 arg4 arg5 f1 f2 f4 f5) (arg2.view.read (Elt F) f2)) := rfl
  refine (View.read_writes_junk_eq_canon arg6.view (bodyRun.sl.H6_32 c arg1 arg2 arg4 arg5 f1 f2 f4 f5)).trans ?_
  rw [h, r_eq]
  exact canon_pieces inbI _

theorem bodyA_eq : arg7.view.read (Elt F) (bodyRun c i arg1 harg1 arg2 harg2 arg3 harg3 arg4 harg4 arg5 harg5 arg6 harg6 arg7 harg7 f1 f2 f3 f4 f5).1.2
    = tcA (arg1.view.read (Elt F) f1) (arg2.view.read (Elt F) f2) (arg3.view.read (Elt F) f3) (arg4.view.read (Elt F) f4) (arg5.view.read (Elt F) f5) := by
  have h : bodyRun.sl.H7_32 c arg1 arg2 arg3 arg4 arg5 f1 f2 f3 f4 f5
      = users.map (pcA (bodyRun.sl.r c arg1 arg2 arg4 arg5 f1 f2 f4 f5) (arg2.view.read (Elt F) f2) (arg3.view.read (Elt F) f3)) := rfl
  refine (View.read_writes_junk_eq_canon arg7.view (bodyRun.sl.H7_32 c arg1 arg2 arg3 arg4 arg5 f1 f2 f3 f4 f5)).trans ?_
  rw [h, r_eq]
  exact canon_pieces inbC _

end Cert.Proof.Run
end
-- ==== Proof.TcRegion.lean ====
/-
  The TensorCore's region: the pipeline over its hundred and twenty-eight blocks, entered from every unscoped buffer at a valuation
  and left with the two results' arrays at what the blocks' bodies wrote.  The TensorCore owes the SparseCores' start meanwhile.
-/
module

public import proofs.«01_k».proof.Proof.TcBody
public import Idealize.ShloMosaic.Lib.Pipeline.FrameTail
public import Idealize.ShloMosaic.Lib.Pipeline.RegionArraysS

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Idealize.ShloMosaic.TcCoe
open Idealize.ShloMosaic.Pipeline (Dat Cfg Window BodyObligation cellOf afterRegion)

variable [FloatOps F]
variable (V : Dev nD → Valuation τ sig (Elt F))

/-- Window `w`'s block at point `t`, of the entry valuation. -/
abbrev blkV (c : Dev nD) (w : Fin 7) (t : Fin cfg0.N) : ((cfg0.win w).xblock (cfg0.grid.coords t)).Idx → Elt F (cfg0.win w).elt :=
  ((cfg0.win w).blk t).view.read (Elt F) (V c (Proc.devRef .tc (Pipeline.arrRef spec0 w)))
abbrev b0 (c : Dev nD) (t : Fin cfg0.N) : IVec S32x1 32 := blkV V c 0 t
abbrev b1 (c : Dev nD) (t : Fin cfg0.N) : FVec F S32x200x32 .f32 := blkV V c 1 t
abbrev b2 (c : Dev nD) (t : Fin cfg0.N) : FVec F S32x5x32 .f32 := blkV V c 2 t
abbrev b3 (c : Dev nD) (t : Fin cfg0.N) : FVec F S32x32 .f32 := blkV V c 3 t
abbrev b4 (c : Dev nD) (t : Fin cfg0.N) : FVec F S32x32 .f32 := blkV V c 4 t

/-- The pairs the TensorCore may have waited on before the call: those of level zero. -/
def low (c : Dev nD) : Set (SemLoc sig × HIx 1) := {p | (K (F := F)).lev (SparseCore.T c, p.1) p.2 ≤ 0}

/-- The proof data: the arrays as the entry valuation has them; after the body each input's block as fetched and the two results' at
    the closed forms; the SparseCores' start owed throughout. -/
def dat (c : Dev nD) : Dat τ (Elt F) (HIx 1) ℕ UU ℕ cfg0 c where
  A w := V c (Proc.devRef .tc (Pipeline.arrRef spec0 w))
  after w t := match w with
    | 0 => blkV V c 0 t
    | 1 => blkV V c 1 t
    | 2 => blkV V c 2 t
    | 3 => blkV V c 3 t
    | 4 => blkV V c 4 t
    | 5 => tcI (b0 V c t) (b1 V c t) (b3 V c t) (b4 V c t)
    | 6 => tcA (b0 V c t) (b1 V c t) (b2 V c t) (b3 V c t) (b4 V c t)
  Φ _ := BI.emp
  q _ := fullShare
  owed _ := (K (F := F)).Otc c 0
  recorded _ := low (F := F) c

abbrev adm : (p : Fin 1) → (pcfgs (F := F) p).Adm := fun p => (cfgs p).toPCfg_adm
abbrev pdats (p : Fin 1) (c : Dev nD) : Dat τ (Elt F) (HIx 1) ℕ UU ℕ (Pipeline.pin (pcfgs (F := F)) adm p) c :=
  match p with | 0 => dat V c

theorem before_eq (c : Dev nD) (t : Fin cfg0.N) :
    (∀ d, (dat V c).before 0 t d = blkV V c 0 t) ∧ (∀ d, (dat V c).before 1 t d = blkV V c 1 t) ∧ (∀ d, (dat V c).before 2 t d = blkV V c 2 t)
      ∧ (∀ d, (dat V c).before 3 t d = blkV V c 3 t) ∧ (∀ d, (dat V c).before 4 t d = blkV V c 4 t) :=
  ⟨fun d => (dat V c).before_in_eq_fetched 0 rfl (fun _ => rfl) (fun _ _ _ => rfl) (fun _ => rfl) t d,
   fun d => (dat V c).before_in_eq_fetched 1 rfl (fun _ => rfl) (fun _ _ _ => rfl) (fun _ => rfl) t d,
   fun d => (dat V c).before_in_eq_fetched 2 rfl (fun _ => rfl) (fun _ _ _ => rfl) (fun _ => rfl) t d,
   fun d => (dat V c).before_in_eq_fetched 3 rfl (fun _ => rfl) (fun _ _ _ => rfl) (fun _ => rfl) t d,
   fun d => (dat V c).before_in_eq_fetched 4 rfl (fun _ => rfl) (fun _ _ _ => rfl) (fun _ => rfl) t d⟩

/-- A whole memref owned at `X` is its buffer held at contents that read `X`. -/
theorem owns_pt (c : Dev nD) {sp : Space} {S : Shape} {e : EltTy} (M : Memref sig .tc sp S e) (h : M.IsWhole) (X : S.Idx → Elt F e) :
    (owns (c.tc : Thread nD τ) M fullShare X : sProp 𝕄) = iprop(∃ f : Bf (F := F) c M, ⌜M.view.read (Elt F) f = X⌝ ∗ pt c M f) := by
  unfold owns pt
  rw [Memref.IsWhole.set_eq_univ h]

abbrev ow (c : Dev nD) {sp : Space} {S : Shape} {e : EltTy} (M : Memref sig .tc sp S e) (X : S.Idx → Elt F e) : sProp 𝕄 :=
  owns (c.tc : Thread nD τ) M fullShare X

/-- The body over seven whole memrefs. -/
theorem bodyOwns (c : Dev nD) (i : grid0.Coords) (arg1 : Memref sig .tc .vmem S32x1 .i32) (harg1 : arg1.IsWhole) (arg2 : Memref sig .tc .vmem S32x200x32 .f32) (harg2 : arg2.IsWhole) (arg3 : Memref sig .tc .vmem S32x5x32 .f32) (harg3 : arg3.IsWhole) (arg4 : Memref sig .tc .vmem S32x32 .f32) (harg4 : arg4.IsWhole) (arg5 : Memref sig .tc .vmem S32x32 .f32) (harg5 : arg5.IsWhole) (arg6 : Memref sig .tc .vmem S32x32x32 .f32) (harg6 : arg6.IsWhole) (arg7 : Memref sig .tc .vmem S32x5x32 .f32) (harg7 : arg7.IsWhole)
    (x1 : IVec S32x1 32) (x2 : FVec F S32x200x32 .f32) (x3 : FVec F S32x5x32 .f32) (x4 x5 : FVec F S32x32 .f32) (x6 : FVec F S32x32x32 .f32) (x7 : FVec F S32x5x32 .f32)
    (E : Set ℕ) (Q : PUnit → sProp 𝕄) :
    iprop(ow (F := F) c arg1 x1 ∗ ow c arg2 x2 ∗ ow c arg3 x3 ∗ ow c arg4 x4 ∗ ow c arg5 x5 ∗ ow c arg6 x6 ∗ ow c arg7 x7
        ∗ (iprop(ow (F := F) c arg1 x1 ∗ ow c arg2 x2 ∗ ow c arg3 x3 ∗ ow c arg4 x4 ∗ ow c arg5 x5 ∗ ow c arg6 (tcI x1 x2 x4 x5) ∗ ow c arg7 (tcA x1 x2 x3 x4 x5)) -∗ Q ⟨⟩))
      ⊢ wp frame (wpE (defs₀ (F := F)) 𝒱₀ (SparseCore.T c) none) E (cc0__tc_body i arg1 harg1 arg2 harg2 arg3 harg3 arg4 harg4 arg5 harg5 arg6 harg6 arg7 harg7) Q := by
  unfold ow
  rw [owns_pt c arg1 harg1, owns_pt c arg2 harg2, owns_pt c arg3 harg3, owns_pt c arg4 harg4, owns_pt c arg5 harg5, owns_pt c arg6 harg6, owns_pt c arg7 harg7,
    owns_pt c arg6 harg6, owns_pt c arg7 harg7]
  iintro ⟨⟨%f1, %h1, H1⟩, ⟨%f2, %h2, H2⟩, ⟨%f3, %h3, H3⟩, ⟨%f4, %h4, H4⟩, ⟨%f5, %h5, H5⟩, ⟨%f6, -, H6⟩, ⟨%f7, -, H7⟩, Hk⟩
  iapply ((bodyRun c i arg1 harg1 arg2 harg2 arg3 harg3 arg4 harg4 arg5 harg5 arg6 harg6 arg7 harg7 f1 f2 f3 f4 f5).2 f6 f7 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  iapply Hk
  isplitl [H1]; · iexists f1; isplitr; swap; (· iexact H1); ipureintro; exact h1
  isplitl [H2]; · iexists f2; isplitr; swap; (· iexact H2); ipureintro; exact h2
  isplitl [H3]; · iexists f3; isplitr; swap; (· iexact H3); ipureintro; exact h3
  isplitl [H4]; · iexists f4; isplitr; swap; (· iexact H4); ipureintro; exact h4
  isplitl [H5]; · iexists f5; isplitr; swap; (· iexact H5); ipureintro; exact h5
  isplitl [H6]
  · iexists _; isplitr; swap; (· iexact H6); ipureintro; refine (bodyI_eq c i arg1 harg1 arg2 harg2 arg3 harg3 arg4 harg4 arg5 harg5 arg6 harg6 arg7 harg7 f1 f2 f3 f4 f5).trans ?_; rw [h1, h2, h4, h5]
  iexists _; isplitr; swap; (· iexact H7); ipureintro; refine (bodyA_eq c i arg1 harg1 arg2 harg2 arg3 harg3 arg4 harg4 arg5 harg5 arg6 harg6 arg7 harg7 f1 f2 f3 f4 f5).trans ?_; rw [h1, h2, h3, h4, h5]

theorem body_obligation (c : Dev nD) : BodyObligation (dat V c) (defs₀ (F := F)) 𝒱₀ none Set.univ := fun t => by
  obtain ⟨e0, e1, e2, e3, e4⟩ := before_eq V c t
  rw [bigSep_W0, bigSep_W0]
  rw [show (dat V c).Φ t.castSucc = BI.emp from rfl, show (dat V c).Φ t.succ = BI.emp from rfl,
    show (dat V c).owesAt none t.succ = (dat V c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  rw [e0, e1, e2, e3, e4]
  iapply (bodyOwns c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6))
    (b0 V c t) (b1 V c t) (b2 V c t) (b3 V c t) (b4 V c t) ((dat V c).before 5 t d5) ((dat V c).before 6 t d6))
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

/-! ## The region -/

theorem Otc_none (d : Dev nD) (n : ℕ) (g : GSem nD τ sig) : (K (F := F)).Otc (N := 1) d n g none = 0 := by
  rcases Nat.eq_zero_or_pos ((K (F := F)).Otc (N := 1) d n g none) with h | h
  · exact h
  · have := SparseCore.Cfg.lev_of_Otc_pos (K := K (F := F)) h
    rw [show (K (F := F)).lev g none = 0 from rfl] at this
    omega

/-- Device `c`'s buffers after the region. -/
abbrev Vp (c : Dev nD) : Valuation τ sig (Elt F) := afterRegion (dat V c) (V c)

/-- What the TensorCore may have waited on and what it owes, before the call. -/
abbrev tcOwes (c : Dev nD) : sProp 𝕄 :=
  iprop(∃ W, ⌜(K (F := F)).WBelow (SparseCore.T c) W 0⌝ ∗ owes (SparseCore.T (τ := τ) c) ((K (F := F)).Otc c 0) W)

set_option backward.isDefEq.respectTransparency.types false in
def reg : Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ (pdats V) none 0 c fun w s t => (K (F := F)).mayWait_none _ (Otc_none c 0)
  pre c := iprop(unscopedBufs c (fun b => V c (Proc.devRef .tc b)) ∗ tcOwes c)
  post c := iprop(unscopedBufs c (fun b => Vp V c (Proc.devRef .tc b)) ∗ tcOwes c)
  X _ := BI.emp
  Y _ := BI.emp
  Z c := Pipeline.unscopedRest (Ix := HIx 1) (Name := ℕ) (U := UU) (Lvl := ℕ) spec0 c (fun b => V c (Proc.devRef .tc b))
  hentry c := by
    rw [Pipeline.ownSems0_none]
    have hsplit := Pipeline.arrays_of_unscopedBufs (p := 0) (pcfgs (F := F)) adm (pdats V) launch0.win launch0.arr_whole c
      ((pdats V 0 c).share_full fun _ => rfl) (fun b => V c (Proc.devRef .tc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = BI.emp from rfl]
    iintro -; iempintro
  hout c := by
    rw [Pipeline.ownSems0_none, show (pdats V 0 c).Φ (Fin.last _) = BI.emp from rfl]
    iintro -
    isplitr; · iempintro
    isplitr; · iempintro
    rw [scopedRest0_eq]; iempintro
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (fun b => V c (Proc.devRef .tc b)) (fun b => Vp V c (Proc.devRef .tc b)) ((pdats V 0 c).arrAt · cfg0.N)
      (fun w => (Pipeline.afterRegion_arr (dat V c) (V c) launch0.win.arr_inj w).symm)
      (fun b hb => Pipeline.afterRegion_of_not_arr (dat V c) (V c) fun w h => hb (h ▸ Finset.mem_image.mpr ⟨w, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact le_refl 0
    iexact HO

end Cert.Proof.Run
end
-- ==== Proof.Steps.lean ====
/-
  The steps of a task's program: a gather, a scatter, a load and a store, at the head of a program, over the contents of the task's
  buffers.
-/
module

public import proofs.«01_k».proof.Proof.Base

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F]

/-- A program of the vector subcore that runs the task at coordinates `L`. -/
abbrev TP (F : FTy → Type) (L : grid1.Coords) (α : Type) := Prog (TpuEff nD τ sig (Elt F) Λ₀ (.scVector (cV L) (jV L))) α
/-- Its weakest precondition. -/
abbrev wpT (d : Dev nD) (L : grid1.Coords) {α : Type} (p : TP F L α) (Q : α → sProp 𝕄) : sProp 𝕄 :=
  wp frame (wpE (defs₀ (F := F)) 𝒱₀ (th d L) none) Set.univ p Q

variable {α : Type} (d : Dev nD) (L : grid1.Coords)

/-! ## One step, at any buffer -/

theorem step_assume {Q : α → sProp 𝕄} {P : Prop} {dP : Decidable P} {k : PLift P → TP F L α} (h : P) :
    wpT d L (k ⟨h⟩) Q ⊢ wpT d L (Prog.lift (TpuEff.assume P dP) >>= k) Q := wp_assume 𝒱₀ (th d L) none Set.univ (k := k) h

theorem step_pure {Q : α → sProp 𝕄} (a : α) : Q a ⊢ wpT d L (Pure.pure a) Q := by
  unfold wpT
  rw [wp_pure]
  iintro H; imodintro; iexact H

theorem gather_of {Q : α → sProp 𝕄} {s t : Shape} {e : EltTy} (m : Memref sig .scVector .vmem s e) {f : Buf (Elt F) ((m.access (.whole s)).loc (th d L))}
    {g : Vec F s e} (hg : (m.access (.whole s)).read (Elt F) f = g) {idxs : Fin s.rank → IVec t 32} {h : ∀ a x, (idxs a x).toNat < s.size a}
    {hl : m.view.Loads} {k : Vec F t e → TP F L α} :
    ((m.access (.whole s)).loc (th d L) ↦{fullShare} f) ⊢
      iprop((((m.access (.whole s)).loc (th d L) ↦{fullShare} f) -∗ wpT d L (k (loadIdx g idxs h)) Q)
        -∗ wpT d L (SparseCore.vectorLoadIdx m idxs h hl >>= k) Q) := by
  have h' := SparseCore.wp_vectorLoadIdx (F := F) (defs := defs₀ (F := F)) 𝒱₀ (th d L) none Set.univ (base := m) (idxs := idxs) (h := h)
    (hl := hl) (k := k) (Q := Q) (S := Finset.univ) (q := fullShare) (f := f) (Finset.subset_univ _)
  rw [hg] at h'
  exact h'

theorem load_of {Q : α → sProp 𝕄} {s : Shape} {e : EltTy} (m : Memref sig .scVector .vmem s e) (r : Rect s) {f : Buf (Elt F) ((m.access r).loc (th d L))}
    {g : Vec F r.shape e} (hg : (m.access r).read (Elt F) f = g) {hl : m.view.LoadsAt r.toLoadRect} {k : Vec F r.shape e → TP F L α} :
    ((m.access r).loc (th d L) ↦{fullShare} f) ⊢
      iprop((((m.access r).loc (th d L) ↦{fullShare} f) -∗ wpT d L (k g) Q)
        -∗ wpT d L (Prog.lift (.load m r.toLoadRect hl) >>= k) Q) := by
  have h' := wp_load_rect (defs := defs₀ (F := F)) (Γ := .empty) 𝒱₀ (th d L) none Set.univ (m := m) (r := r) (hl := hl) (k := k) (Q := Q)
    (S := Finset.univ) (q := fullShare) (f := f) (Finset.subset_univ _)
  rw [hg] at h'
  exact h'

theorem store_of {Q : α → sProp 𝕄} {s : Shape} {e : EltTy} (m : Memref sig .scVector .vmem s e) (r : Rect s) {f f' : Buf (Elt F) ((m.access r).loc (th d L))}
    {w : Vec F r.shape e} (hw : (m.access r).write (Elt F) f w Finset.univ = f') {hx : (m.access r).Stores Finset.univ} {hm}
    {k : PUnit → TP F L α} :
    ((m.access r).loc (th d L) ↦{fullShare} f) ⊢
      iprop((((m.access r).loc (th d L) ↦{fullShare} f') -∗ wpT d L (k ⟨⟩) Q)
        -∗ wpT d L (Prog.lift (.store m r w Finset.univ hx hm) >>= k) Q) := by
  have h' := wp_store (defs := defs₀ (F := F)) (Γ := .empty) 𝒱₀ (th d L) none Set.univ (m := m) (r := r) (w := w) (Mk := Finset.univ) (hx := hx) (hm := hm)
    (k := k) (Q := Q) (S := Finset.univ) (f := f) (Finset.subset_univ _)
  rw [hw] at h'
  exact h'

theorem scatter_of {Q : α → sProp 𝕄} {n : Fin 1 → ℕ} {s : Shape} {e : EltTy} (m : Memref sig .scVector .vmem s e) {f f' : Buf (Elt F) ((m.access (.whole s)).loc (th d L))}
    {g : Vec F s e} (hg : (m.access (.whole s)).read (Elt F) f = g) (hset : (m.access (.whole s)).set = Finset.univ)
    {idxs : Fin s.rank → IVec ⟨1, n⟩ 32} {v : Vec F ⟨1, n⟩ e} {h : ∀ a x, (idxs a x).toNat < s.size a}
    (hw : (m.access (.whole s)).write (Elt F) f (storeIdx g idxs v (fun _ => 1#1) false h) Finset.univ = f')
    {hs : (m.access (.whole s)).Stores Finset.univ} {k : PUnit → TP F L α} :
    ((m.access (.whole s)).loc (th d L) ↦{fullShare} f) ⊢
      iprop((((m.access (.whole s)).loc (th d L) ↦{fullShare} f') -∗ wpT d L (k ⟨⟩) Q)
        -∗ wpT d L (SparseCore.vectorStoreIdx m idxs v (fun _ => 1#1) false h hs >>= k) Q) := by
  have h' := SparseCore.wp_vectorStoreIdx (F := F) (defs := defs₀ (F := F)) 𝒱₀ (th d L) none Set.univ (base := m) (idxs := idxs) (h := h)
    (v := v) (mask := fun _ => 1#1) (add := false) (hs := hs) (k := k) (Q := Q) (f := f)
  rw [hg, hset, hw] at h'
  exact h'

/-! ## The same at the buffers of a task -/

/-- The rectangle of all sixteen lanes. -/
abbrev r16 : Rect S16 := Rect.unit (s := S16) ![0] S16.size inb_S16_S16_0

theorem off0 : (![0] : Fin 1 → ℕ) = fun _ => 0 := by funext a; fin_cases a; rfl

theorem gather_dk {Q : α → sProp 𝕄} {t : Shape} (f : Vec F S16 .i32) {idxs : Fin 1 → IVec t 32} {h : ∀ a x, (idxs a x).toNat < S16.size a}
    {hl : (dkV).view.Loads} {k : Vec F t .i32 → TP F L α} :
    dkP d L f ⊢ iprop((dkP d L f -∗ wpT d L (k (loadIdx f idxs h)) Q) -∗ wpT d L (SparseCore.vectorLoadIdx dkV idxs h hl >>= k) Q) :=
  gather_of d L dkV (Memref.read_access_whole (Elt F) cc1_scratch1 f)
theorem gather_in {Q : α → sProp 𝕄} {t : Shape} (f : Vec F S8192 .f32) {idxs : Fin 1 → IVec t 32} {h : ∀ a x, (idxs a x).toNat < S8192.size a}
    {hl : (inV).view.Loads} {k : Vec F t .f32 → TP F L α} :
    inP d L f ⊢ iprop((inP d L f -∗ wpT d L (k (loadIdx f idxs h)) Q) -∗ wpT d L (SparseCore.vectorLoadIdx inV idxs h hl >>= k) Q) :=
  gather_of d L inV (Memref.read_access_whole (Elt F) cc1_scratch2 f)
theorem gather_ky {Q : α → sProp 𝕄} {t : Shape} (f : Vec F S16 .f32) {idxs : Fin 1 → IVec t 32} {h : ∀ a x, (idxs a x).toNat < S16.size a}
    {hl : (kyV).view.Loads} {k : Vec F t .f32 → TP F L α} :
    kyP d L f ⊢ iprop((kyP d L f -∗ wpT d L (k (loadIdx f idxs h)) Q) -∗ wpT d L (SparseCore.vectorLoadIdx kyV idxs h hl >>= k) Q) :=
  gather_of d L kyV (Memref.read_access_whole (Elt F) cc1_scratch4 f)
theorem gather_sk {Q : α → sProp 𝕄} {t : Shape} (f : Vec F S16 .f32) {idxs : Fin 1 → IVec t 32} {h : ∀ a x, (idxs a x).toNat < S16.size a}
    {hl : (skV).view.Loads} {k : Vec F t .f32 → TP F L α} :
    skP d L f ⊢ iprop((skP d L f -∗ wpT d L (k (loadIdx f idxs h)) Q) -∗ wpT d L (SparseCore.vectorLoadIdx skV idxs h hl >>= k) Q) :=
  gather_of d L skV (Memref.read_access_whole (Elt F) cc1_scratch5 f)
theorem gather_sv {Q : α → sProp 𝕄} {t : Shape} (f : Vec F S16 .i32) {idxs : Fin 1 → IVec t 32} {h : ∀ a x, (idxs a x).toNat < S16.size a}
    {hl : (svV).view.Loads} {k : Vec F t .i32 → TP F L α} :
    svP d L f ⊢ iprop((svP d L f -∗ wpT d L (k (loadIdx f idxs h)) Q) -∗ wpT d L (SparseCore.vectorLoadIdx svV idxs h hl >>= k) Q) :=
  gather_of d L svV (Memref.read_access_whole (Elt F) cc1_scratch6 f)

theorem load_ky {Q : α → sProp 𝕄} (f : Vec F S16 .f32) {hl : (kyV).view.LoadsAt r16.toLoadRect} {k : Vec F S16 .f32 → TP F L α} :
    kyP d L f ⊢ iprop((kyP d L f -∗ wpT d L (k f) Q) -∗ wpT d L (Prog.lift (.load kyV r16.toLoadRect hl) >>= k) Q) :=
  load_of d L kyV r16 (Memref.read_access_unit_zero (Elt F) cc1_scratch4 off0 _ f)
theorem load_sk {Q : α → sProp 𝕄} (f : Vec F S16 .f32) {hl : (skV).view.LoadsAt r16.toLoadRect} {k : Vec F S16 .f32 → TP F L α} :
    skP d L f ⊢ iprop((skP d L f -∗ wpT d L (k f) Q) -∗ wpT d L (Prog.lift (.load skV r16.toLoadRect hl) >>= k) Q) :=
  load_of d L skV r16 (Memref.read_access_unit_zero (Elt F) cc1_scratch5 off0 _ f)
theorem load_sv {Q : α → sProp 𝕄} (f : Vec F S16 .i32) {hl : (svV).view.LoadsAt r16.toLoadRect} {k : Vec F S16 .i32 → TP F L α} :
    svP d L f ⊢ iprop((svP d L f -∗ wpT d L (k f) Q) -∗ wpT d L (Prog.lift (.load svV r16.toLoadRect hl) >>= k) Q) :=
  load_of d L svV r16 (Memref.read_access_unit_zero (Elt F) cc1_scratch6 off0 _ f)

theorem store_ky {Q : α → sProp 𝕄} (f : Vec F S16 .f32) {w : Vec F S16 .f32} {hx : ((kyV).access r16).Stores Finset.univ} {hm} {k : PUnit → TP F L α} :
    kyP d L f ⊢ iprop((kyP d L w -∗ wpT d L (k ⟨⟩) Q) -∗ wpT d L (Prog.lift (.store kyV r16 w Finset.univ hx hm) >>= k) Q) :=
  store_of d L kyV r16 (Memref.write_access_unit_zero_univ (Elt F) cc1_scratch4 off0 _ f w)
theorem store_sk {Q : α → sProp 𝕄} (f : Vec F S16 .f32) {w : Vec F S16 .f32} {hx : ((skV).access r16).Stores Finset.univ} {hm} {k : PUnit → TP F L α} :
    skP d L f ⊢ iprop((skP d L w -∗ wpT d L (k ⟨⟩) Q) -∗ wpT d L (Prog.lift (.store skV r16 w Finset.univ hx hm) >>= k) Q) :=
  store_of d L skV r16 (Memref.write_access_unit_zero_univ (Elt F) cc1_scratch5 off0 _ f w)
theorem store_sv {Q : α → sProp 𝕄} (f : Vec F S16 .i32) {w : Vec F S16 .i32} {hx : ((svV).access r16).Stores Finset.univ} {hm} {k : PUnit → TP F L α} :
    svP d L f ⊢ iprop((svP d L w -∗ wpT d L (k ⟨⟩) Q) -∗ wpT d L (Prog.lift (.store svV r16 w Finset.univ hx hm) >>= k) Q) :=
  store_of d L svV r16 (Memref.write_access_unit_zero_univ (Elt F) cc1_scratch6 off0 _ f w)

theorem scatter_sk {Q : α → sProp 𝕄} (f : Vec F S16 .f32) {idxs : Fin 1 → IVec S16 32} {v : Vec F S16 .f32} {h : ∀ a x, (idxs a x).toNat < S16.size a}
    {hs : ((skV).access (.whole S16)).Stores Finset.univ} {k : PUnit → TP F L α} :
    skP d L f ⊢ iprop((skP d L (storeIdx f idxs v (fun _ => 1#1) false h) -∗ wpT d L (k ⟨⟩) Q)
      -∗ wpT d L (SparseCore.vectorStoreIdx skV idxs v (fun _ => 1#1) false h hs >>= k) Q) :=
  scatter_of d L skV (Memref.read_access_whole (Elt F) cc1_scratch5 f) (Memref.set_access_whole cc1_scratch5)
    (Memref.write_access_whole_univ (Elt F) cc1_scratch5 f _)
theorem scatter_sv {Q : α → sProp 𝕄} (f : Vec F S16 .i32) {idxs : Fin 1 → IVec S16 32} {v : Vec F S16 .i32} {h : ∀ a x, (idxs a x).toNat < S16.size a}
    {hs : ((svV).access (.whole S16)).Stores Finset.univ} {k : PUnit → TP F L α} :
    svP d L f ⊢ iprop((svP d L (storeIdx f idxs v (fun _ => 1#1) false h) -∗ wpT d L (k ⟨⟩) Q)
      -∗ wpT d L (SparseCore.vectorStoreIdx svV idxs v (fun _ => 1#1) false h hs >>= k) Q) :=
  scatter_of d L svV (Memref.read_access_whole (Elt F) cc1_scratch6 f) (Memref.set_access_whole cc1_scratch6)
    (Memref.write_access_whole_univ (Elt F) cc1_scratch6 f _)

end Cert.Proof.Run

end
-- ==== Proof.Lanes.lean ====
/-
  What a task computes of one candidate, over the contents of its buffers: the ranks of the lanes, the ordering by rank, and the weighted
  interests added up. Nothing here runs.
-/
module

public import proofs.«01_k».proof.Proof.Steps

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F]

/-! ## Indices by number -/

/-- The index `n` of a vector of `N` elements (wrapping past the end). -/
def ixN (N : ℕ) [NeZero N] (n : ℕ) : (⟨1, ![N]⟩ : Shape).Idx :=
  Shape.ofLane (d := ![N]) (⟨n % N, Nat.mod_lt _ (NeZero.pos N)⟩ : Fin N)

theorem ixN_zero_val (N : ℕ) [NeZero N] (n : ℕ) : (ixN N n 0).val = n % N := rfl

theorem idx_ext {N : ℕ} {x y : (⟨1, ![N]⟩ : Shape).Idx} (h : (x 0).val = (y 0).val) : x = y := by
  funext a
  obtain rfl : a = 0 := Fin.eq_zero a
  exact Fin.ext h

theorem idx_eq_ixN {N : ℕ} [NeZero N] {x : (⟨1, ![N]⟩ : Shape).Idx} {n : ℕ} (h : (x 0).val = n) : x = ixN N n := by
  apply idx_ext
  rw [ixN_zero_val, ← h, Nat.mod_eq_of_lt]
  exact (x 0).isLt

theorem ixN_self {N : ℕ} [NeZero N] (x : (⟨1, ![N]⟩ : Shape).Idx) : ixN N (x 0).val = x := (idx_eq_ixN rfl).symm

/-- What a gather at the words `v` reads. -/
def gat {α : Type} (N : ℕ) [NeZero N] {t : Shape} (f : (⟨1, ![N]⟩ : Shape).Idx → α) (v : IVec t 32) : t.Idx → α :=
  fun x => f (ixN N (v x).toNat)

theorem loadIdx_eq {N : ℕ} [NeZero N] {t : Shape} {e : EltTy} (f : Vec F ⟨1, ![N]⟩ e) (v : IVec t 32)
    (h : ∀ a x, ((![v] : Fin 1 → IVec t 32) a x).toNat < (⟨1, ![N]⟩ : Shape).size a) : loadIdx (F := F) f ![v] h = gat N f v := by
  funext x
  exact congrArg f (idx_eq_ixN rfl)

/-- What a scatter of `v` at the words `p` leaves of `f`: the lanes stored in turn, a later one over an earlier. -/
def sct {α : Type} (f : S16.Idx → α) (p : IVec S16 32) (v : S16.Idx → α) : S16.Idx → α :=
  (List.finRange 16).foldl (fun g k => fun j => if (j 0).val = (p (ixN 16 k.val)).toNat then v (ixN 16 k.val) else g j) f

theorem storeIdx_eq {e : EltTy} (f : Vec F S16 e) (p : IVec S16 32) (v : Vec F S16 e)
    (h : ∀ a x, ((![p] : Fin 1 → IVec S16 32) a x).toNat < S16.size a) :
    storeIdx (F := F) f ![p] v (fun _ => 1#1) false h = sct f p v := by
  unfold storeIdx sct
  congr 1
  funext g k j
  have hk : Shape.ofLane (d := ![16]) k = ixN 16 k.val := idx_eq_ixN rfl
  have e1 : (∀ a : Fin S16.rank, (j a).val = (idxAt (s := S16) ![p] h (Shape.ofLane (d := ![16]) k) a).val) ↔ (j 0).val = (p (ixN 16 k.val)).toNat := by
    rw [← hk]
    exact Fin.forall_fin_one
  by_cases hc : (j 0).val = (p (ixN 16 k.val)).toNat
  · exact ((if_pos (e1.2 hc)).trans (congrArg v hk)).trans (if_pos (c := (j 0).val = (p (ixN 16 k.val)).toNat) hc).symm
  · exact (if_neg (fun h' => hc (e1.1 h'))).trans (if_neg (c := (j 0).val = (p (ixN 16 k.val)).toNat) hc).symm

/-- Every element of a scatter of `v` onto `v` is one of `v`'s. -/
theorem sct_self_all {α : Type} (P : α → Prop) (p : IVec S16 32) (v : S16.Idx → α) (hv : ∀ x, P (v x)) (x : S16.Idx) : P (sct v p v x) := by
  unfold sct
  suffices H : ∀ (l : List (Fin 16)) (g : S16.Idx → α), (∀ x, P (g x)) →
      ∀ x, P (l.foldl (fun g k => fun j => if (j 0).val = (p (ixN 16 k.val)).toNat then v (ixN 16 k.val) else g j) g x) from H _ v hv x
  intro l
  induction l with
  | nil => intro g hg; exact hg
  | cons k l ih =>
    intro g hg
    refine ih _ fun x => ?_
    dsimp only
    split
    · exact hv _
    · exact hg _

/-! ## The rank of a lane -/

/-- The lanes' own numbers. -/
abbrev io : IVec S16 32 := iota .scVector S16 32 [0] iota_S16_d0_w32_scVector

theorem io_apply (j : S16.Idx) : io j = BitVec.ofNat 32 (j 0).val := by
  show BitVec.ofNat 32 (0 * 16 + (j 0).val) = _
  rw [Nat.zero_mul, Nat.zero_add]

/-- Lane `i` of the keys `k` is ordered before lane `j`: a larger key, or the same key in an earlier lane. -/
def bef (k : FVec F S16 .f32) (i : Fin 16) (j : S16.Idx) : Prop :=
  (FloatOps.cmpf .ogt (k (ixN 16 i.val)) (k j) = 1#1 ∧ i.val ≠ (j 0).val) ∨
    (FloatOps.cmpf .oeq (k (ixN 16 i.val)) (k j) = 1#1 ∧ i.val < (j 0).val)

open Classical in
/-- How many of the first `n` lanes are ordered before lane `j`. -/
def rk (k : FVec F S16 .f32) (n : ℕ) (j : S16.Idx) : ℕ := (Finset.univ.filter fun i : Fin 16 => i.val < n ∧ bef k i j).card

theorem rk_zero (k : FVec F S16 .f32) (j : S16.Idx) : rk k 0 j = 0 := by
  classical
  unfold rk
  rw [Finset.card_eq_zero, Finset.filter_eq_empty_iff]
  intro i _ h
  exact absurd h.1 (Nat.not_lt_zero _)

open Classical in
theorem rk_succ (k : FVec F S16 .f32) (t : Fin 16) (j : S16.Idx) : rk k (t.val + 1) j = rk k t.val j + if bef k t j then 1 else 0 := by
  unfold rk
  by_cases hb : bef k t j
  · rw [if_pos hb, ← Finset.card_insert_of_notMem (s := Finset.univ.filter fun i : Fin 16 => i.val < t.val ∧ bef k i j) (a := t)]
    · congr 1
      ext i
      simp only [Finset.mem_filter, Finset.mem_univ, true_and, Finset.mem_insert]
      constructor
      · rintro ⟨h1, h2⟩
        by_cases h : i = t
        · exact .inl h
        · exact .inr ⟨by have := fun e => h (Fin.ext e); omega, h2⟩
      · rintro (rfl | ⟨h1, h2⟩)
        · exact ⟨by omega, hb⟩
        · exact ⟨by omega, h2⟩
    · simp
  · rw [if_neg hb]
    refine (congrArg Finset.card (Finset.ext fun i => ?_)).trans (Nat.add_zero _).symm
    simp only [Finset.mem_filter, Finset.mem_univ, true_and]
    constructor
    · rintro ⟨h1, h2⟩
      have : i ≠ t := fun e => hb (e ▸ h2)
      exact ⟨by have := fun e => this (Fin.ext e); omega, h2⟩
    · rintro ⟨h1, h2⟩
      exact ⟨by omega, h2⟩

theorem not_bef_self (k : FVec F S16 .f32) (i : Fin 16) (j : S16.Idx) (h : i.val = (j 0).val) : ¬ bef k i j := by
  rintro (⟨-, h'⟩ | ⟨-, h'⟩)
  · exact h' h
  · omega

theorem rk_lt (k : FVec F S16 .f32) (n : ℕ) (j : S16.Idx) : rk k n j < 16 := by
  classical
  unfold rk
  have hj : (j 0).val < 16 := (j 0).isLt
  have hsub : (Finset.univ.filter fun i : Fin 16 => i.val < n ∧ bef k i j) ⊂ (Finset.univ : Finset (Fin 16)) := by
    rw [Finset.filter_ssubset]
    exact ⟨⟨(j 0).val, hj⟩, Finset.mem_univ _, fun h => not_bef_self k _ j rfl h.2⟩
  have := Finset.card_lt_card hsub
  simpa using this

/-- The ranks of the lanes, counted over the first `n`. -/
def rankV (k : FVec F S16 .f32) (n : ℕ) : IVec S16 32 := fun j => BitVec.ofNat 32 (rk k n j)

theorem rankV_toNat (k : FVec F S16 .f32) (n : ℕ) (j : S16.Idx) : (rankV k n j).toNat = rk k n j := by
  unfold rankV
  rw [BitVec.toNat_ofNat, Nat.mod_eq_of_lt]
  have := rk_lt k n j
  omega

theorem rankV_lt (k : FVec F S16 .f32) (n : ℕ) : ∀ (a : Fin 1) (x : S16.Idx), ((![rankV k n] : Fin 1 → IVec S16 32) a x).toNat < S16.size a := by
  intro a x
  obtain rfl : a = 0 := Fin.eq_zero a
  show (rankV k n x).toNat < 16
  rw [rankV_toNat]
  exact rk_lt k n x

/-- One lane counted into the ranks: the word operations of a trip of the rank loop. -/
def rankStep (k : FVec F S16 .f32) (t : BitVec 32) (acc : IVec S16 32) (v : FVec F S16 .f32) : IVec S16 32 :=
  addi acc (select (ori (andi (cmpf .ogt v k) (cmpi .ne (broadcast S16 t) io)) (andi (cmpf .oeq v k) (cmpi .slt (broadcast S16 t) io)))
    (broadcast S16 1#32) (broadcast S16 0#32))

theorem bit_and_or (a b c e : BitVec 1) : ((a &&& b) ||| (c &&& e)) = 1#1 ↔ (a = 1#1 ∧ b = 1#1) ∨ (c = 1#1 ∧ e = 1#1) := by
  revert a b c e; decide

theorem ofBool_one (b : Bool) : BitVec.ofBool b = 1#1 ↔ b = true := by cases b <;> decide

theorem rankStep_eq (k : FVec F S16 .f32) (t : Fin 16) :
    rankStep k (BitVec.ofNat 32 t.val) (rankV k t.val) (fun _ => k (ixN 16 t.val)) = rankV k (t.val + 1) := by
  classical
  funext j
  have hj : (j 0).val < 16 := (j 0).isLt
  have ht := t.isLt
  have hne : IntOp.cmpi .ne (BitVec.ofNat 32 t.val) (io j) = 1#1 ↔ t.val ≠ (j 0).val := by
    rw [io_apply]
    show BitVec.ofBool (BitVec.ofNat 32 t.val != BitVec.ofNat 32 (j 0).val) = 1#1 ↔ _
    rw [ofBool_one, bne_iff_ne, ne_eq, ne_eq, not_iff_not]
    constructor
    · intro h
      have := congrArg BitVec.toNat h
      rw [BitVec.toNat_ofNat, BitVec.toNat_ofNat] at this
      omega
    · intro h; rw [h]
  have hlt : IntOp.cmpi .slt (BitVec.ofNat 32 t.val) (io j) = 1#1 ↔ t.val < (j 0).val := by
    rw [io_apply]
    show BitVec.ofBool ((BitVec.ofNat 32 t.val).slt (BitVec.ofNat 32 (j 0).val)) = 1#1 ↔ _
    rw [ofBool_one, BitVec.slt_iff_toInt_lt, BitVec.toInt_ofNat', BitVec.toInt_ofNat']
    have e1 : ((t.val : ℤ)).bmod (2 ^ 32) = t.val := by rw [Int.bmod_eq_of_le] <;> omega
    have e2 : (((j 0).val : ℤ)).bmod (2 ^ 32) = (j 0).val := by rw [Int.bmod_eq_of_le] <;> omega
    rw [e1, e2]; omega
  have key : ((FloatOps.cmpf .ogt (k (ixN 16 t.val)) (k j) &&& IntOp.cmpi .ne (BitVec.ofNat 32 t.val) (io j)) |||
      (FloatOps.cmpf .oeq (k (ixN 16 t.val)) (k j) &&& IntOp.cmpi .slt (BitVec.ofNat 32 t.val) (io j))) = 1#1 ↔ bef k t j := by
    rw [bit_and_or, hne, hlt]; rfl
  show BitVec.ofNat 32 (rk k t.val j) + (if ((FloatOps.cmpf .ogt (k (ixN 16 t.val)) (k j) &&& IntOp.cmpi .ne (BitVec.ofNat 32 t.val) (io j)) |||
      (FloatOps.cmpf .oeq (k (ixN 16 t.val)) (k j) &&& IntOp.cmpi .slt (BitVec.ofNat 32 t.val) (io j))) = 1#1 then 1#32 else 0#32)
    = BitVec.ofNat 32 (rk k (t.val + 1) j)
  rw [rk_succ]
  by_cases hb : bef k t j
  · rw [if_pos hb, if_pos (key.2 hb), BitVec.ofNat_add]
  · rw [if_neg hb, if_neg (fun h => hb (key.1 h)), Nat.add_zero, BitVec.add_zero]

/-! ## What the task computes of one candidate -/

/-- `v`'s lanes stored at the ranks of the keys `k`. -/
def srt {α : Type} (k : FVec F S16 .f32) (v : S16.Idx → α) : S16.Idx → α := sct v (rankV k 16) v

/-- The keys and the interests' numbers after the two halves are ordered and their first eight lanes joined. -/
def midK (k0 k1 : FVec F S16 .f32) : FVec F S16 .f32 := k1_pay12 k1_pay1 (srt k0 k0) (gat 16 (srt k1 k1) k1_pay2)
def midV (k0 k1 : FVec F S16 .f32) : IVec S16 32 := k1_pay13 (F := F) k1_pay1 (srt k0 io) (gat 16 (srt k1 (k1_pay9 io)) k1_pay2)
/-- The joined lanes ordered: the weights, of which those past the count `dk` are dropped, and the interests' numbers. -/
def topK (k0 k1 : FVec F S16 .f32) (dk : IVec S16 32) : FVec F S16 .f32 := k1_pay16 io dk (srt (midK k0 k1) (midK k0 k1))
def topV (k0 k1 : FVec F S16 .f32) : IVec S16 32 := srt (midK k0 k1) (midV k0 k1)

/-- Half `h` of the interest whose number stands in lane `n`. -/
def intRow (fi : Vec F S8192 .f32) (sv : IVec S16 32) (u h n : ℕ) : FVec F S16 .f32 :=
  fun x => fi (ixN 8192 (u * 1024 + (sv (ixN 16 n)).toNat * 32 + h * 16 + (x 0).val))

/-- The weighted interests added up over the first `n` lanes. -/
def acc (fi : Vec F S8192 .f32) (w : FVec F S16 .f32) (sv : IVec S16 32) (u h : ℕ) : ℕ → FVec F S16 .f32
  | 0 => k1_pay17
  | n + 1 => addf (acc fi w sv u h n) (mulf (fun _ => w (ixN 16 n)) (intRow fi sv u h n))

/-- Half `h` of the result of the candidate whose 32 weights are `k0`, `k1`. -/
def cand (fi : Vec F S8192 .f32) (k0 k1 : FVec F S16 .f32) (dk : IVec S16 32) (u h : ℕ) : FVec F S16 .f32 :=
  acc fi (topK k0 k1 dk) (topV k0 k1) u h 6

/-! ## The numbers of the interests are below 32 -/

theorem io_lt (x : S16.Idx) : (io x).toNat < 32 := by
  have : (x 0).val < 16 := (x 0).isLt
  rw [io_apply, BitVec.toNat_ofNat]; omega

theorem pay9_lt (x : S16.Idx) : (k1_pay9 io x).toNat < 32 := by
  have : (x 0).val < 16 := (x 0).isLt
  show (io x + 16#32).toNat < 32
  rw [io_apply, BitVec.toNat_add, BitVec.toNat_ofNat]
  show ((x 0).val % 2 ^ 32 + 16) % 2 ^ 32 < 32
  omega

theorem midV_lt (k0 k1 : FVec F S16 .f32) (x : S16.Idx) : (midV k0 k1 x).toNat < 32 := by
  show (Scalar.select (k1_pay1 x) (srt k0 io x) (gat 16 (srt k1 (k1_pay9 io)) k1_pay2 x)).toNat < 32
  unfold Scalar.select
  split
  · exact sct_self_all (fun b : BitVec 32 => b.toNat < 32) _ _ io_lt x
  · exact sct_self_all (fun b : BitVec 32 => b.toNat < 32) _ _ pay9_lt _

theorem topV_lt (k0 k1 : FVec F S16 .f32) (x : S16.Idx) : (topV k0 k1 x).toNat < 32 :=
  sct_self_all (fun b : BitVec 32 => b.toNat < 32) _ _ (midV_lt k0 k1) x

end Cert.Proof.Run

end
-- ==== Proof.Parts.lean ====
/-
  The parts of a task's program that work on one candidate, run: what each leaves in the scratch buffers and hands on.
-/
module

public import proofs.«01_k».proof.Proof.Lanes

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F]
variable {α : Type} (d : Dev nD) (L : grid1.Coords)

/-! ## The side conditions of the gathers -/

theorem inb_of {N : ℕ} {v : IVec S16 32} (h : ∀ x, (v x).toNat < N) :
    ∀ (a : Fin 1) (x : S16.Idx), ((![v] : Fin 1 → IVec S16 32) a x).toNat < (⟨1, ![N]⟩ : Shape).size a := by
  intro a x
  obtain rfl : a = 0 := Fin.eq_zero a
  exact h x

theorem inb_bcast {n : ℕ} (hn : n < 16) (x : S16.Idx) : (broadcast S16 (BitVec.ofNat 32 n) x).toNat < 16 := by
  show (BitVec.ofNat 32 n).toNat < 16
  rw [BitVec.toNat_ofNat]; omega

/-- A gather at one lane, spread to all. -/
theorem gat_bcast {β : Type} {n : ℕ} (hn : n < 16) (f : S16.Idx → β) :
    gat 16 (t := S16) f (broadcast S16 (BitVec.ofNat 32 n)) = fun _ => f (ixN 16 n) := by
  funext x
  show f (ixN 16 (BitVec.ofNat 32 n).toNat) = _
  rw [BitVec.toNat_ofNat, Nat.mod_eq_of_lt (by omega)]

theorem chk6 : k1_chk6 k1_pay2 := by
  have h : ∀ x, (k1_pay2 x).toNat < 16 := by
    intro x
    have hx : (x 0).val < 16 := (x 0).isLt
    show (Scalar.select (k1_pay1 x) (io x) (io x - 8#32)).toNat < 16
    have h1 : k1_pay1 x = BitVec.ofBool ((io x).slt 8#32) := rfl
    rw [h1, io_apply]
    generalize (x 0).val = n at hx
    interval_cases n <;> decide
  exact ⟨inb_of (N := 16) h, inb_of (N := 16) h⟩

theorem step_pure' {Q : α → sProp 𝕄} {a b : α} (h : b = a) : Q b ⊢ wpT d L (Pure.pure a) Q := h ▸ step_pure d L b

/-! ## The rank loop -/

theorem iv_eq (t : ℕ) : Scf.iv 0#32 1#32 t = BitVec.ofNat 32 t := by
  unfold Scf.iv
  rw [BitVec.zero_add, BitVec.mul_one]

theorem gat_iv {β : Type} {n : ℕ} (hn : n < 16) (f : S16.Idx → β) :
    gat 16 (t := S16) f (broadcast S16 (Scf.iv 0#32 1#32 n)) = fun _ => f (ixN 16 n) := by
  rw [iv_eq]; exact gat_bcast hn f

theorem rank_loop (key : FVec F S16 .f32) {ub : BitVec 32} (hub : ub = 16#32) {ok : Scf.OK 0#32 ub 1#32} {init : IVec S16 32} (hi : init = fun _ => 0#32)
    {body : Fin (Scf.trips 0#32 ub 1#32) → IVec S16 32 → TP F L (IVec S16 32)}
    (hbody : ∀ t a Q', kyP d L key ⊢ iprop((kyP d L key -∗ Q' (rankStep key (Scf.iv 0#32 1#32 t.val) a (fun _ => key (ixN 16 t.val)))) -∗ wpT d L (body t a) Q'))
    {k : IVec S16 32 → TP F L α} {Q : α → sProp 𝕄} :
    kyP d L key ⊢ iprop((kyP d L key -∗ wpT d L (k (rankV key 16)) Q) -∗ wpT d L (Scf.for 0#32 ub 1#32 ok init body >>= k) Q) := by
  subst hub hi
  have e0 : (fun _ => 0#32 : IVec S16 32) = rankV key 0 := by
    funext j
    show 0#32 = BitVec.ofNat 32 (rk key 0 j)
    rw [rk_zero]
  have htr : Scf.trips (0#32) (16#32) (1#32) = 16 := by decide
  iintro Hky Hk
  iapply (Scf.wp_for_bind frame (wpE (defs₀ (F := F)) 𝒱₀ (th d L) none) Set.univ (0#32) (16#32) (1#32) ok (fun _ => 0#32) body
    (fun n a => iprop(⌜a = rankV key n⌝ ∗ kyP d L key)) ?step) $$ [Hky]
  case step =>
    intro t a
    iintro ⟨%ha, Hky⟩
    subst ha
    iapply (hbody t _ _) $$ Hky
    iintro Hky
    isplitr
    · ipureintro
      rw [iv_eq]
      exact rankStep_eq key (t.cast htr)
    · iexact Hky
  · isplitr
    · ipureintro; exact e0
    · iexact Hky
  · iintro %a ⟨%ha, Hky⟩
    rw [htr] at ha
    subst ha
    iapply Hk; iexact Hky

/-! ## The parts of a candidate's computation -/

/-- Sixteen lanes of the task's rows of weights from word `n`. -/
def row16 (fa : Vec F S1280 .f32) (n : ℕ) : FVec F S16 .f32 := fun x => fa (ixN 1280 (n + (x 0).val))

theorem read_row16 (fa : Vec F S1280 .f32) (off : Fin 1 → ℕ) (inb : ∀ a, off a + S16.size a ≤ S1280.size a) :
    ((awV).access (Rect.unit (s := S1280) off S16.size inb)).read (Elt F) fa = row16 fa (off 0) := by
  funext x
  refine congrArg fa (idx_eq_ixN ?_)
  show off 0 + 1 * (x 0).val = _
  rw [Nat.one_mul]

theorem load_aw (fa : Vec F S1280 .f32) {Q : α → sProp 𝕄} {off : Fin 1 → ℕ} {inb : ∀ a, off a + S16.size a ≤ S1280.size a}
    {hl : (awV).view.LoadsAt (Rect.unit (s := S1280) off S16.size inb).toLoadRect} {k : Vec F S16 .f32 → TP F L α} :
    awP d L fa ⊢ iprop((awP d L fa -∗ wpT d L (k (row16 fa (off 0))) Q)
      -∗ wpT d L (Prog.lift (.load awV (Rect.unit (s := S1280) off S16.size inb).toLoadRect hl) >>= k) Q) :=
  load_of d L awV (Rect.unit (s := S1280) off S16.size inb) (read_row16 fa off inb)

/-- The ordering by rank, once the ranks are counted: keys and values stored, then each lane scattered to its rank. -/
theorem sort_store (key fk : Vec F S16 .f32) (vals fv : Vec F S16 .i32) {Q : α → sProp 𝕄} {hlk : (skV).view.LoadsAt r16.toLoadRect}
    {hxk : ((skV).access r16).Stores Finset.univ} {hmk} {hlv : (svV).view.LoadsAt r16.toLoadRect} {hxv : ((svV).access r16).Stores Finset.univ} {hmv}
    {hk hv : ∀ a x, ((![rankV key 16] : Fin 1 → IVec S16 32) a x).toNat < S16.size a}
    {hsk : ((skV).access (.whole S16)).Stores Finset.univ} {hsv : ((svV).access (.whole S16)).Stores Finset.univ}
    {k : PUnit → TP F L α} :
    iprop(skP d L fk ∗ svP d L fv) ⊢ iprop((skP d L (srt key key) ∗ svP d L (srt key vals) -∗ wpT d L (k ⟨⟩) Q) -∗
      wpT d L (Prog.lift (.load skV r16.toLoadRect hlk) >>= fun _ => Prog.lift (.store skV r16 key Finset.univ hxk hmk) >>= fun _ =>
        Prog.lift (.load svV r16.toLoadRect hlv) >>= fun _ => Prog.lift (.store svV r16 vals Finset.univ hxv hmv) >>= fun _ =>
        SparseCore.vectorStoreIdx skV ![rankV key 16] key (fun _ => 1#1) false hk hsk >>= fun _ =>
        SparseCore.vectorStoreIdx svV ![rankV key 16] vals (fun _ => 1#1) false hv hsv >>= k) Q) := by
  iintro ⟨Hk, Hv⟩ HQ
  iapply (load_sk d L fk) $$ Hk; iintro Hk
  iapply (store_sk d L fk) $$ Hk; iintro Hk
  iapply (load_sv d L fv) $$ Hv; iintro Hv
  iapply (store_sv d L fv) $$ Hv; iintro Hv
  iapply (scatter_sk d L key) $$ Hk; iintro Hk
  iapply (scatter_sv d L vals) $$ Hv; iintro Hv
  rw [storeIdx_eq, storeIdx_eq]
  iapply HQ
  isplitl [Hk]
  · iexact Hk
  · iexact Hv

theorem part1 (hw6 : k1_chk6 k1_pay2) (t2 : Fin k1_t2_loop.trips) (a14 : BitVec 32) (t3 : Fin k1_t3_loop.trips)
    (fa : Vec F S1280 .f32) (fy fk : Vec F S16 .f32) (fv : Vec F S16 .i32) (r0 r1 : FVec F S16 .f32)
    (hr0 : row16 fa (k1_off4 t2 t3 0) = r0) (hr1 : row16 fa (k1_off5 t2 t3 0) = r1)
    {Q : (Σ' (_ : BitVec 32) (_ : Vec F S16 .f32) (_ : Vec F S16 .i32), Vec F S16 .f32) → sProp 𝕄} :
    iprop(awP d L fa ∗ kyP d L fy ∗ skP d L fk ∗ svP d L fv) ⊢
      iprop((awP d L fa ∗ kyP d L r1 ∗ skP d L (srt r1 r1) ∗ svP d L (srt r1 (k1_pay9 io)) -∗
          Q ⟨Scf.iv 0#32 1#32 t3, srt r0 r0, srt r0 io, gat 16 (srt r1 r1) k1_pay2⟩) -∗
        wpT d L (k1_part1 L awH (Memref.isWhole_whole _) dkH (Memref.isWhole_whole _) inH (Memref.isWhole_whole _) ouH (Memref.isWhole_whole _) awV (Memref.isWhole_whole _) dkV (Memref.isWhole_whole _) inV (Memref.isWhole_whole _) ouV (Memref.isWhole_whole _) kyV (Memref.isWhole_whole _) skV (Memref.isWhole_whole _) svV (Memref.isWhole_whole _) cc1_scoped0 cc1_scoped1 cc1_scoped2 cc1_scoped3 io k1_pay2 hw6 t2 a14 0#32 1#32 t3) Q) := by
  rw [k1_part1_eq_skeleton]; unfold k1_part1_skel
  iintro ⟨Ha, Hy, Hk, Hv⟩ HQ
  iapply (load_aw d L fa) $$ Ha; iintro Ha
  iapply (load_aw d L fa) $$ Ha; iintro Ha
  rw [hr0, hr1]
  iapply (load_ky d L fy) $$ Hy; iintro Hy
  iapply (store_ky d L fy) $$ Hy; iintro Hy
  iapply (rank_loop d L r0 rfl rfl ?_) $$ Hy
  · intro t a Q'
    unfold k1_t4_body
    iintro Hy HQ
    iapply (step_assume d L (inb_of (N := 16) (v := broadcast S16 (Scf.iv 0#32 1#32 t.val)) (by rw [iv_eq]; exact inb_bcast t.isLt)))
    iapply (gather_ky d L r0) $$ Hy; iintro Hy
    rw [loadIdx_eq, gat_iv t.isLt]
    iapply (step_pure' d L (b := rankStep r0 (Scf.iv 0#32 1#32 t.val) a (fun _ => r0 (ixN 16 t.val))) rfl)
    iapply HQ; iexact Hy
  iintro Hy
  iapply (step_assume d L ⟨rankV_lt r0 16, rankV_lt r0 16⟩)
  iapply (sort_store d L r0 fk io fv) $$ [Hk Hv]
  · isplitl [Hk] <;> iassumption
  iintro ⟨Hk, Hv⟩
  iapply (load_sk d L _) $$ Hk; iintro Hk
  iapply (load_sv d L _) $$ Hv; iintro Hv
  iapply (load_ky d L r0) $$ Hy; iintro Hy
  iapply (store_ky d L r0) $$ Hy; iintro Hy
  iapply (rank_loop d L r1 rfl rfl ?_) $$ Hy
  · intro t a Q'
    unfold k1_t5_body
    iintro Hy HQ
    iapply (step_assume d L (inb_of (N := 16) (v := broadcast S16 (Scf.iv 0#32 1#32 t.val)) (by rw [iv_eq]; exact inb_bcast t.isLt)))
    iapply (gather_ky d L r1) $$ Hy; iintro Hy
    rw [loadIdx_eq, gat_iv t.isLt]
    iapply (step_pure' d L (b := rankStep r1 (Scf.iv 0#32 1#32 t.val) a (fun _ => r1 (ixN 16 t.val))) rfl)
    iapply HQ; iexact Hy
  iintro Hy
  iapply (step_assume d L ⟨rankV_lt r1 16, rankV_lt r1 16⟩)
  iapply (sort_store d L r1 _ (k1_pay9 io) _) $$ [Hk Hv]
  · isplitl [Hk] <;> iassumption
  iintro ⟨Hk, Hv⟩
  iapply (gather_sk d L _) $$ Hk; iintro Hk
  rw [loadIdx_eq]
  iapply (step_pure d L)
  iapply HQ
  isplitl [Ha]; · iassumption
  isplitl [Hy]; · iassumption
  isplitl [Hk] <;> iassumption

/-! ## The words that name an interest -/

theorem idx_lo {u n : ℕ} {sv : IVec S16 32} (hu : u < 8) (hb : (sv (ixN 16 n)).toNat < 32) (x : S16.Idx) :
    (k1_pay18 (F := F) io (Scf.iv 0#32 1#32 u) (fun _ => sv (ixN 16 n)) x).toNat = u * 1024 + (sv (ixN 16 n)).toNat * 32 + 0 * 16 + (x 0).val := by
  have hx : (x 0).val < 16 := (x 0).isLt
  rw [iv_eq]
  show (((BitVec.ofNat 32 u * 32#32) * 32#32 + sv (ixN 16 n) * 32#32) + io x).toNat = _
  rw [io_apply]
  generalize sv (ixN 16 n) = b at hb
  simp only [BitVec.toNat_add, BitVec.toNat_mul, BitVec.toNat_ofNat]
  omega

theorem idx_hi {u n : ℕ} {sv : IVec S16 32} (hu : u < 8) (hb : (sv (ixN 16 n)).toNat < 32) (x : S16.Idx) :
    (addi (k1_pay18 (F := F) io (Scf.iv 0#32 1#32 u) (fun _ => sv (ixN 16 n))) (broadcast S16 16#32) x).toNat
      = u * 1024 + (sv (ixN 16 n)).toNat * 32 + 1 * 16 + (x 0).val := by
  have hx : (x 0).val < 16 := (x 0).isLt
  show (k1_pay18 (F := F) io (Scf.iv 0#32 1#32 u) (fun _ => sv (ixN 16 n)) x + 16#32).toNat = _
  rw [BitVec.toNat_add, idx_lo hu hb]
  show (_ + 16) % 2 ^ 32 = _
  omega

theorem gather_row {Q : α → sProp 𝕄} (fi : Vec F S8192 .f32) {u n h : ℕ} {sv v : IVec S16 32}
    (hv : ∀ x : S16.Idx, (v x).toNat = u * 1024 + (sv (ixN 16 n)).toNat * 32 + h * 16 + (x 0).val)
    {hb : ∀ a x, ((![v] : Fin 1 → IVec S16 32) a x).toNat < S8192.size a} {hl : (inV).view.Loads} {k : Vec F S16 .f32 → TP F L α} :
    inP d L fi ⊢ iprop((inP d L fi -∗ wpT d L (k (intRow fi sv u h n)) Q) -∗ wpT d L (SparseCore.vectorLoadIdx inV ![v] hb hl >>= k) Q) := by
  have h' := gather_in (Q := Q) d L fi (idxs := ![v]) (h := hb) (hl := hl) (k := k)
  rw [loadIdx_eq] at h'
  have e : gat 8192 fi v = intRow fi sv u h n := by
    funext x
    show fi (ixN 8192 (v x).toNat) = _
    rw [hv x]; rfl
  rw [e] at h'
  exact h'

theorem row_lt {u n h : ℕ} {sv v : IVec S16 32} (hu : u < 8) (hb : (sv (ixN 16 n)).toNat < 32) (hh : h < 2)
    (hv : ∀ x : S16.Idx, (v x).toNat = u * 1024 + (sv (ixN 16 n)).toNat * 32 + h * 16 + (x 0).val) :
    ∀ (a : Fin 1) (x : S16.Idx), ((![v] : Fin 1 → IVec S16 32) a x).toNat < S8192.size a := by
  refine inb_of (N := 8192) fun x => ?_
  have hx : (x 0).val < 16 := (x 0).isLt
  rw [hv x]; omega

theorem inb_lo {u n : ℕ} {sv : IVec S16 32} (hu : u < 8) (hb : (sv (ixN 16 n)).toNat < 32) :
    ∀ (a : Fin 1) (x : S16.Idx), ((![k1_pay18 (F := F) io (Scf.iv 0#32 1#32 u) (fun _ => sv (ixN 16 n))] : Fin 1 → IVec S16 32) a x).toNat < S8192.size a :=
  row_lt hu hb (by decide) (idx_lo hu hb)
theorem inb_hi {u n : ℕ} {sv : IVec S16 32} (hu : u < 8) (hb : (sv (ixN 16 n)).toNat < 32) :
    ∀ (a : Fin 1) (x : S16.Idx), ((![addi (k1_pay18 (F := F) io (Scf.iv 0#32 1#32 u) (fun _ => sv (ixN 16 n))) (broadcast S16 16#32)] : Fin 1 → IVec S16 32) a x).toNat < S8192.size a :=
  row_lt hu hb (by decide) (idx_hi hu hb)

theorem part2 (hw6 : k1_chk6 k1_pay2) (dk : IVec S16 32) (a0 : FVec F S16 .f32) (b0 : IVec S16 32) (t2 : Fin k1_t2_loop.trips)
    (fi : Vec F S8192 .f32) (fy fk : Vec F S16 .f32) (fv : Vec F S16 .i32) (m : FVec F S16 .f32) (mv : IVec S16 32) (w : FVec F S16 .f32)
    (sv : IVec S16 32) (g : FVec F S16 .f32)
    (hm : k1_pay12 k1_pay1 a0 g = m) (hmv : k1_pay13 (F := F) k1_pay1 b0 (gat 16 fv k1_pay2) = mv)
    (hw : k1_pay16 io dk (srt m m) = w) (hv : srt m mv = sv) (hsv : ∀ x, (sv x).toNat < 32)
    {Q : (Σ' (_ : FVec F S16 .f32) (_ : Vec F S16 .f32) (_ : IVec S16 32) (_ : FVec F S16 .f32), IVec S16 32) → sProp 𝕄} :
    iprop(inP d L fi ∗ kyP d L fy ∗ skP d L fk ∗ svP d L fv) ⊢
      iprop((inP d L fi ∗ kyP d L m ∗ skP d L w ∗ svP d L sv -∗
          Q ⟨acc fi w sv t2 1 0, fun _ => w (ixN 16 0), k1_pay18 (F := F) io (Scf.iv 0#32 1#32 t2) (fun _ => sv (ixN 16 0)), acc fi w sv t2 0 1, k1_pay20⟩) -∗
        wpT d L (k1_part2 L awH (Memref.isWhole_whole _) dkH (Memref.isWhole_whole _) inH (Memref.isWhole_whole _) ouH (Memref.isWhole_whole _) awV (Memref.isWhole_whole _) dkV (Memref.isWhole_whole _) inV (Memref.isWhole_whole _) ouV (Memref.isWhole_whole _) kyV (Memref.isWhole_whole _) skV (Memref.isWhole_whole _) svV (Memref.isWhole_whole _) cc1_scoped0 cc1_scoped1 cc1_scoped2 cc1_scoped3 io k1_pay1 k1_pay2 hw6 (Scf.iv 0#32 1#32 t2) dk a0 b0 g) Q) := by
  rw [k1_part2_eq_skeleton]; unfold k1_part2_skel
  iintro ⟨Hi, Hy, Hk, Hv⟩ HQ
  iapply (gather_sv d L fv) $$ Hv; iintro Hv
  rw [loadIdx_eq, hm, hmv]
  iapply (load_ky d L fy) $$ Hy; iintro Hy
  iapply (store_ky d L fy) $$ Hy; iintro Hy
  iapply (rank_loop d L m rfl rfl ?_) $$ Hy
  · intro t a Q'
    unfold k1_t6_body
    iintro Hy HQ
    iapply (step_assume d L (inb_of (N := 16) (v := broadcast S16 (Scf.iv 0#32 1#32 t.val)) (by rw [iv_eq]; exact inb_bcast t.isLt)))
    iapply (gather_ky d L m) $$ Hy; iintro Hy
    rw [loadIdx_eq, gat_iv t.isLt]
    iapply (step_pure' d L (b := rankStep m (Scf.iv 0#32 1#32 t.val) a (fun _ => m (ixN 16 t.val))) (by rw [← hm]; rfl))
    iapply HQ; iexact Hy
  iintro Hy
  iapply (step_assume d L ⟨rankV_lt m 16, rankV_lt m 16⟩)
  iapply (sort_store d L m fk mv fv) $$ [Hk Hv]
  · isplitl [Hk] <;> iassumption
  iintro ⟨Hk, Hv⟩
  rw [hv]
  iapply (load_sk d L _) $$ Hk; iintro Hk
  rw [hw]
  iapply (load_sk d L _) $$ Hk; iintro Hk
  iapply (store_sk d L _) $$ Hk; iintro Hk
  iapply (step_assume d L (inb_of (inb_bcast (n := 0) (by decide))))
  iapply (gather_sv d L sv) $$ Hv; iintro Hv
  rw [loadIdx_eq, gat_bcast (n := 0) (by decide)]
  iapply (step_assume d L (inb_of (inb_bcast (n := 0) (by decide))))
  iapply (gather_sk d L w) $$ Hk; iintro Hk
  rw [loadIdx_eq, gat_bcast (n := 0) (by decide)]
  iapply (step_assume d L ((inb_lo (F := F) (sv := sv) (n := 0) t2.isLt (hsv _))))
  iapply (gather_row d L fi (idx_lo (F := F) (sv := sv) (n := 0) t2.isLt (hsv _))) $$ Hi; iintro Hi
  iapply (step_pure' d L (b := ⟨acc fi w sv t2 1 0, fun _ => w (ixN 16 0), k1_pay18 (F := F) io (Scf.iv 0#32 1#32 t2) (fun _ => sv (ixN 16 0)), acc fi w sv t2 0 1, k1_pay20⟩) (by rfl))
  iapply HQ
  isplitl [Hi]; · iassumption
  isplitl [Hy]; · iassumption
  isplitl [Hk] <;> iassumption

theorem part3 (t2 : Fin k1_t2_loop.trips) (fi : Vec F S8192 .f32) (w : FVec F S16 .f32) (sv : IVec S16 32) (hsv : ∀ x, (sv x).toNat < 32)
    {Q : (Σ' (_ : FVec F S16 .f32) (_ : Vec F S16 .f32) (_ : FVec F S16 .f32) (v116 : IVec S16 32), k1_chk20 v116) → sProp 𝕄} :
    iprop(inP d L fi ∗ skP d L w ∗ svP d L sv) ⊢
      iprop((inP d L fi ∗ skP d L w ∗ svP d L sv -∗
          Q ⟨acc fi w sv t2 1 2, fun _ => w (ixN 16 2), acc fi w sv t2 0 3,
            k1_pay26 (k1_pay24 (F := F) io (Scf.iv 0#32 1#32 t2) (fun _ => sv (ixN 16 2))), (inb_hi (F := F) (sv := sv) (n := 2) t2.isLt (hsv _))⟩) -∗
        wpT d L (k1_part3 L awH (Memref.isWhole_whole _) dkH (Memref.isWhole_whole _) inH (Memref.isWhole_whole _) ouH (Memref.isWhole_whole _) awV (Memref.isWhole_whole _) dkV (Memref.isWhole_whole _) inV (Memref.isWhole_whole _) ouV (Memref.isWhole_whole _) kyV (Memref.isWhole_whole _) skV (Memref.isWhole_whole _) svV (Memref.isWhole_whole _) cc1_scoped0 cc1_scoped1 cc1_scoped2 cc1_scoped3 io (Scf.iv 0#32 1#32 t2) (acc fi w sv t2 1 0) (fun _ => w (ixN 16 0))
          (k1_pay18 (F := F) io (Scf.iv 0#32 1#32 t2) (fun _ => sv (ixN 16 0))) (acc fi w sv t2 0 1) k1_pay20) Q) := by
  rw [k1_part3_eq_skeleton]; unfold k1_part3_skel
  iintro ⟨Hi, Hk, Hv⟩ HQ
  iapply (step_assume d L ((inb_hi (F := F) (sv := sv) (n := 0) t2.isLt (hsv _))))
  iapply (gather_row d L fi (idx_hi (F := F) (sv := sv) (n := 0) t2.isLt (hsv _))) $$ Hi; iintro Hi
  iapply (step_assume d L (inb_of (inb_bcast (n := 1) (by decide))))
  iapply (gather_sv d L sv) $$ Hv; iintro Hv
  rw [loadIdx_eq, gat_bcast (n := 1) (by decide)]
  iapply (step_assume d L (inb_of (inb_bcast (n := 1) (by decide))))
  iapply (gather_sk d L w) $$ Hk; iintro Hk
  rw [loadIdx_eq, gat_bcast (n := 1) (by decide)]
  iapply (step_assume d L ((inb_lo (F := F) (sv := sv) (n := 1) t2.isLt (hsv _))))
  iapply (gather_row d L fi (idx_lo (F := F) (sv := sv) (n := 1) t2.isLt (hsv _))) $$ Hi; iintro Hi
  iapply (step_assume d L ((inb_hi (F := F) (sv := sv) (n := 1) t2.isLt (hsv _))))
  iapply (gather_row d L fi (idx_hi (F := F) (sv := sv) (n := 1) t2.isLt (hsv _))) $$ Hi; iintro Hi
  iapply (step_assume d L (inb_of (inb_bcast (n := 2) (by decide))))
  iapply (gather_sv d L sv) $$ Hv; iintro Hv
  rw [loadIdx_eq, gat_bcast (n := 2) (by decide)]
  iapply (step_assume d L (inb_of (inb_bcast (n := 2) (by decide))))
  iapply (gather_sk d L w) $$ Hk; iintro Hk
  rw [loadIdx_eq, gat_bcast (n := 2) (by decide)]
  iapply (step_assume d L ((inb_lo (F := F) (sv := sv) (n := 2) t2.isLt (hsv _))))
  iapply (gather_row d L fi (idx_lo (F := F) (sv := sv) (n := 2) t2.isLt (hsv _))) $$ Hi; iintro Hi
  iapply (step_assume d L ((inb_hi (F := F) (sv := sv) (n := 2) t2.isLt (hsv _))))
  iapply (step_pure' d L (b := ⟨acc fi w sv t2 1 2, fun _ => w (ixN 16 2), acc fi w sv t2 0 3, k1_pay26 (k1_pay24 (F := F) io (Scf.iv 0#32 1#32 t2) (fun _ => sv (ixN 16 2))), (inb_hi (F := F) (sv := sv) (n := 2) t2.isLt (hsv _))⟩) (by rfl))
  iapply HQ
  isplitl [Hi]; · iassumption
  isplitl [Hk] <;> iassumption

theorem part4 (t2 : Fin k1_t2_loop.trips) (fi : Vec F S8192 .f32) (w : FVec F S16 .f32) (sv : IVec S16 32) (hsv : ∀ x, (sv x).toNat < 32)
    {hw20 : k1_chk20 (k1_pay26 (k1_pay24 (F := F) io (Scf.iv 0#32 1#32 t2) (fun _ => sv (ixN 16 2))))}
    {Q : (Σ' (_ : FVec F S16 .f32) (_ : FVec F S16 .f32), FVec F S16 .f32) → sProp 𝕄} :
    iprop(inP d L fi ∗ skP d L w ∗ svP d L sv) ⊢
      iprop((inP d L fi ∗ skP d L w ∗ svP d L sv -∗
          Q ⟨acc fi w sv t2 1 4, acc fi w sv t2 0 5, mulf (fun _ => w (ixN 16 4)) (intRow fi sv t2 1 4)⟩) -∗
        wpT d L (k1_part4 L awH (Memref.isWhole_whole _) dkH (Memref.isWhole_whole _) inH (Memref.isWhole_whole _) ouH (Memref.isWhole_whole _) awV (Memref.isWhole_whole _) dkV (Memref.isWhole_whole _) inV (Memref.isWhole_whole _) ouV (Memref.isWhole_whole _) kyV (Memref.isWhole_whole _) skV (Memref.isWhole_whole _) svV (Memref.isWhole_whole _) cc1_scoped0 cc1_scoped1 cc1_scoped2 cc1_scoped3 io (Scf.iv 0#32 1#32 t2) (acc fi w sv t2 1 2) (fun _ => w (ixN 16 2)) (acc fi w sv t2 0 3)
          (k1_pay26 (k1_pay24 (F := F) io (Scf.iv 0#32 1#32 t2) (fun _ => sv (ixN 16 2)))) hw20) Q) := by
  rw [k1_part4_eq_skeleton]; unfold k1_part4_skel
  iintro ⟨Hi, Hk, Hv⟩ HQ
  iapply (gather_row d L fi (idx_hi (F := F) (sv := sv) (n := 2) t2.isLt (hsv _))) $$ Hi; iintro Hi
  iapply (step_assume d L (inb_of (inb_bcast (n := 3) (by decide))))
  iapply (gather_sv d L sv) $$ Hv; iintro Hv
  rw [loadIdx_eq, gat_bcast (n := 3) (by decide)]
  iapply (step_assume d L (inb_of (inb_bcast (n := 3) (by decide))))
  iapply (gather_sk d L w) $$ Hk; iintro Hk
  rw [loadIdx_eq, gat_bcast (n := 3) (by decide)]
  iapply (step_assume d L ((inb_lo (F := F) (sv := sv) (n := 3) t2.isLt (hsv _))))
  iapply (gather_row d L fi (idx_lo (F := F) (sv := sv) (n := 3) t2.isLt (hsv _))) $$ Hi; iintro Hi
  iapply (step_assume d L ((inb_hi (F := F) (sv := sv) (n := 3) t2.isLt (hsv _))))
  iapply (gather_row d L fi (idx_hi (F := F) (sv := sv) (n := 3) t2.isLt (hsv _))) $$ Hi; iintro Hi
  iapply (step_assume d L (inb_of (inb_bcast (n := 4) (by decide))))
  iapply (gather_sv d L sv) $$ Hv; iintro Hv
  rw [loadIdx_eq, gat_bcast (n := 4) (by decide)]
  iapply (step_assume d L (inb_of (inb_bcast (n := 4) (by decide))))
  iapply (gather_sk d L w) $$ Hk; iintro Hk
  rw [loadIdx_eq, gat_bcast (n := 4) (by decide)]
  iapply (step_assume d L ((inb_lo (F := F) (sv := sv) (n := 4) t2.isLt (hsv _))))
  iapply (gather_row d L fi (idx_lo (F := F) (sv := sv) (n := 4) t2.isLt (hsv _))) $$ Hi; iintro Hi
  iapply (step_assume d L ((inb_hi (F := F) (sv := sv) (n := 4) t2.isLt (hsv _))))
  iapply (gather_row d L fi (idx_hi (F := F) (sv := sv) (n := 4) t2.isLt (hsv _))) $$ Hi; iintro Hi
  iapply (step_pure' d L (b := ⟨acc fi w sv t2 1 4, acc fi w sv t2 0 5, mulf (fun _ => w (ixN 16 4)) (intRow fi sv t2 1 4)⟩) (by rfl))
  iapply HQ
  isplitl [Hi]; · iassumption
  isplitl [Hk] <;> iassumption

end Cert.Proof.Run

end
-- ==== Proof.Tile1.lean ====
/-
One candidate and one group of eight users of the tile task: what the two inner loops leave in the
task's row of results.
-/
module

public import proofs.«01_k».proof.Proof.Parts

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F]
variable {α : Type} (d : Dev nD) (L : grid1.Coords)

theorem step_bind {β : Type} {Q : α → sProp 𝕄} {p : TP F L β} {k : β → TP F L α} :
    wpT d L p (fun a => wpT d L (k a) Q) ⊢ wpT d L (p >>= k) Q := Entails.of_eq (wp_bind _ _ _ p k Q).symm

/-! ## Stores into the results' buffer -/

/-- `f` with the sixteen words from `o` replaced by `w`. -/
def upd16 (f : Vec F S1280 .f32) (o : ℕ) (w : FVec F S16 .f32) : Vec F S1280 .f32 :=
  fun y => if o ≤ (y 0).val ∧ (y 0).val < o + 16 then w (ixN 16 ((y 0).val - o)) else f y

theorem write_ou (f : Vec F S1280 .f32) (w : FVec F S16 .f32) (off : Fin 1 → ℕ) (inb : ∀ a, off a + S16.size a ≤ S1280.size a) :
    ((ouV).access (Rect.unit (s := S1280) off S16.size inb)).write (Elt F) f w Finset.univ = upd16 f (off 0) w := by
  have hv : ∀ x : S16.Idx, (((ouV).access (Rect.unit (s := S1280) off S16.size inb)).emb x 0).val = off 0 + (x 0).val := fun x => by
    show off 0 + 1 * (x 0).val = _
    rw [Nat.one_mul]
  funext y
  by_cases h : off 0 ≤ (y 0).val ∧ (y 0).val < off 0 + 16
  · have hy : y = ((ouV).access (Rect.unit (s := S1280) off S16.size inb)).emb (ixN 16 ((y 0).val - off 0)) := by
      apply idx_ext (N := 1280)
      rw [hv, ixN_zero_val, Nat.mod_eq_of_lt (by omega)]; omega
    have e := View.write_emb_of_mem (v := (ouV).access (Rect.unit (s := S1280) off S16.size inb)) (Val := Elt F) f w
      (M := Finset.univ) (x := ixN 16 ((y 0).val - off 0)) (Finset.mem_univ _)
    rw [← hy] at e
    exact e.trans (if_pos (c := off 0 ≤ (y 0).val ∧ (y 0).val < off 0 + 16) h).symm
  · have e := View.write_of_not_mem (v := (ouV).access (Rect.unit (s := S1280) off S16.size inb)) (Val := Elt F) f w Finset.univ (i := y) (by
      intro hm
      unfold View.setOn at hm
      obtain ⟨x, -, hx⟩ := Finset.mem_map.1 hm
      apply h
      have h0 : (x 0).val < 16 := (x 0).isLt
      rw [← hx, hv]; omega)
    exact e.trans (if_neg (c := off 0 ≤ (y 0).val ∧ (y 0).val < off 0 + 16) h).symm

theorem load_ou (f : Vec F S1280 .f32) {Q : α → sProp 𝕄} {off : Fin 1 → ℕ} {inb : ∀ a, off a + S16.size a ≤ S1280.size a}
    {hl : (ouV).view.LoadsAt (Rect.unit (s := S1280) off S16.size inb).toLoadRect} {k : Vec F S16 .f32 → TP F L α} :
    ouP d L f ⊢ iprop((ouP d L f -∗ wpT d L (k (((ouV).access (Rect.unit (s := S1280) off S16.size inb)).read (Elt F) f)) Q)
      -∗ wpT d L (Prog.lift (.load ouV (Rect.unit (s := S1280) off S16.size inb).toLoadRect hl) >>= k) Q) :=
  load_of d L ouV (Rect.unit (s := S1280) off S16.size inb) rfl

theorem store_ou (f : Vec F S1280 .f32) (o : ℕ) {Q : α → sProp 𝕄} {off : Fin 1 → ℕ} {inb : ∀ a, off a + S16.size a ≤ S1280.size a} {w : Vec F S16 .f32}
    (ho : off 0 = o) {hx : ((ouV).access (Rect.unit (s := S1280) off S16.size inb)).Stores Finset.univ} {hm} {k : PUnit → TP F L α} :
    ouP d L f ⊢ iprop((ouP d L (upd16 f o w) -∗ wpT d L (k ⟨⟩) Q)
      -∗ wpT d L (Prog.lift (.store ouV (Rect.unit (s := S1280) off S16.size inb) w Finset.univ hx hm) >>= k) Q) :=
  store_of d L ouV (Rect.unit (s := S1280) off S16.size inb) (by rw [← ho]; exact write_ou f w off inb)

/-! ## What the task's row of results is to hold -/

/-- The row of results of a group of eight users: word `160 u + 32 n + c` is component `c` of candidate `n` of user `u`,
    computed from the group's weights `fa`, counts `fd` and interests `fi`. -/
def outL (fa : Vec F S1280 .f32) (fd : Vec F S16 .i32) (fi : Vec F S8192 .f32) : Vec F S1280 .f32 := fun y =>
  cand fi (row16 fa ((y 0).val / 32 * 32)) (row16 fa ((y 0).val / 32 * 32 + 16)) (fun _ => fd (ixN 16 ((y 0).val / 160))) ((y 0).val / 160)
    ((y 0).val % 32 / 16) (ixN 16 ((y 0).val % 16))

/-- The first `n` candidates of the group are done. -/
def Done (fa : Vec F S1280 .f32) (fd : Vec F S16 .i32) (fi : Vec F S8192 .f32) (n : ℕ) (f : Vec F S1280 .f32) : Prop :=
  ∀ y : S1280.Idx, (y 0).val < n * 32 → f y = outL fa fd fi y

theorem done_step {fa : Vec F S1280 .f32} {fd : Vec F S16 .i32} {fi : Vec F S8192 .f32} {n : ℕ} {f : Vec F S1280 .f32} {t2 t3 : ℕ} (h3 : t3 < 5)
    (hn : n = t2 * 5 + t3) (hf : Done fa fd fi n f) :
    Done fa fd fi (n + 1)
      (upd16 (upd16 f (160 * t2 + 32 * t3) (cand fi (row16 fa (160 * t2 + 32 * t3)) (row16 fa (160 * t2 + 32 * t3 + 16)) (fun _ => fd (ixN 16 t2)) t2 0))
        (160 * t2 + 32 * t3 + 16) (cand fi (row16 fa (160 * t2 + 32 * t3)) (row16 fa (160 * t2 + 32 * t3 + 16)) (fun _ => fd (ixN 16 t2)) t2 1)) := by
  intro y hy
  by_cases h1 : (y 0).val < n * 32
  · refine Eq.trans ?_ (hf y h1)
    exact (if_neg (by omega)).trans (if_neg (by omega))
  · have e1 : (y 0).val / 32 * 32 = 160 * t2 + 32 * t3 := by omega
    have e2 : (y 0).val / 160 = t2 := by omega
    unfold outL
    rw [e1, e2]
    by_cases h2 : (y 0).val < 160 * t2 + 32 * t3 + 16
    · have e3 : (y 0).val % 32 / 16 = 0 := by omega
      have e4 : (y 0).val - (160 * t2 + 32 * t3) = (y 0).val % 16 := by omega
      rw [e3, ← e4]
      exact (if_neg (by omega)).trans (if_pos ⟨by omega, h2⟩)
    · have e3 : (y 0).val % 32 / 16 = 1 := by omega
      have e4 : (y 0).val - (160 * t2 + 32 * t3 + 16) = (y 0).val % 16 := by omega
      rw [e3, ← e4]
      exact if_pos ⟨by omega, by omega⟩

/-- The task's buffers while a group of eight users is computed: the weights, the counts and the interests as they were copied in, the
    first `n` candidates' results, and the three sixteen-lane scratches. -/
def grp (fa : Vec F S1280 .f32) (fd : Vec F S16 .i32) (fi : Vec F S8192 .f32) (n : ℕ) : sProp 𝕄 :=
  iprop(awP d L fa ∗ dkP d L fd ∗ inP d L fi ∗ (∃ f, ⌜Done fa fd fi n f⌝ ∗ ouP d L f) ∗ (∃ f, kyP d L f) ∗ (∃ f, skP d L f) ∗ (∃ f, svP d L f))

/-! ## One candidate -/

theorem t3_body (hw6 : k1_chk6 k1_pay2) (t2 : Fin k1_t2_loop.trips) (t3 : Fin k1_t3_loop.trips) (fa : Vec F S1280 .f32) (fd : Vec F S16 .i32)
    (fi : Vec F S8192 .f32) {Q : Unit → sProp 𝕄} :
    grp d L fa fd fi (t2.val * 5 + t3.val) ⊢ iprop((grp d L fa fd fi (t2.val * 5 + t3.val + 1) -∗ Q ⟨⟩) -∗
      wpT d L (k1_t3_body L awH (Memref.isWhole_whole _) dkH (Memref.isWhole_whole _) inH (Memref.isWhole_whole _) ouH (Memref.isWhole_whole _) awV (Memref.isWhole_whole _) dkV (Memref.isWhole_whole _) inV (Memref.isWhole_whole _) ouV (Memref.isWhole_whole _) kyV (Memref.isWhole_whole _) skV (Memref.isWhole_whole _) svV (Memref.isWhole_whole _) cc1_scoped0 cc1_scoped1 cc1_scoped2 cc1_scoped3 io k1_pay2 hw6 t2 (Scf.iv 0#32 1#32 t2) (fun _ => fd (ixN 16 t2)) t3 ⟨⟩) Q) := by
  have h4 : k1_off4 t2 t3 0 = 160 * t2.val + 32 * t3.val := by rw [k1_off4_eq]; rfl
  have h5 : k1_off5 t2 t3 0 = 160 * t2.val + 32 * t3.val + 16 := by rw [k1_off5_eq]; rfl
  have h6 : k1_off6 t2 t3 0 = 160 * t2.val + 32 * t3.val := by rw [k1_off6_eq]; rfl
  have h7 : k1_off7 t2 t3 0 = 160 * t2.val + 32 * t3.val + 16 := by rw [k1_off7_eq]; rfl
  unfold grp k1_t3_body
  iintro ⟨Ha, Hd, Hi, ⟨%fo, %hfo, Ho⟩, ⟨%fy, Hy⟩, ⟨%fk, Hk⟩, ⟨%fv, Hv⟩⟩ HQ
  obtain ⟨r0, hr0⟩ : ∃ r0, row16 fa (160 * t2.val + 32 * t3.val) = r0 := ⟨_, rfl⟩
  obtain ⟨r1, hr1⟩ : ∃ r1, row16 fa (160 * t2.val + 32 * t3.val + 16) = r1 := ⟨_, rfl⟩
  have hdone := done_step (t2 := t2.val) (t3 := t3.val) t3.isLt rfl hfo
  rw [hr0, hr1] at hdone
  have hsv : ∀ x, (topV r0 r1 x).toNat < 32 := topV_lt r0 r1
  obtain ⟨w, hw⟩ : ∃ w, topK r0 r1 (fun _ => fd (ixN 16 t2)) = w := ⟨_, rfl⟩
  obtain ⟨sv, hv⟩ : ∃ sv, topV r0 r1 = sv := ⟨_, rfl⟩
  rw [hv] at hsv
  iapply (step_bind d L)
  iapply (part1 d L hw6 t2 _ t3 fa fy fk fv r0 r1 (by rw [h4, hr0]) (by rw [h5, hr1])) $$ [Ha Hy Hk Hv]
  · isplitl [Ha]; · iassumption
    isplitl [Hy]; · iassumption
    isplitl [Hk] <;> iassumption
  iintro ⟨Ha, Hy, Hk, Hv⟩
  dsimp only
  iapply (step_bind d L)
  iapply (part2 d L hw6 _ _ _ t2 fi _ _ _ (midK r0 r1) (midV r0 r1) w sv _ rfl rfl hw hv hsv) $$ [Hi Hy Hk Hv]
  · isplitl [Hi]; · iassumption
    isplitl [Hy]; · iassumption
    isplitl [Hk] <;> iassumption
  iintro ⟨Hi, Hy, Hk, Hv⟩
  dsimp only
  iapply (step_bind d L)
  iapply (part3 d L t2 fi w sv hsv) $$ [Hi Hk Hv]
  · isplitl [Hi]; · iassumption
    isplitl [Hk] <;> iassumption
  iintro ⟨Hi, Hk, Hv⟩
  dsimp only
  iapply (step_bind d L)
  iapply (part4 d L t2 fi w sv hsv) $$ [Hi Hk Hv]
  · isplitl [Hi]; · iassumption
    isplitl [Hk] <;> iassumption
  iintro ⟨Hi, Hk, Hv⟩
  dsimp only
  iapply (step_assume d L (inb_of (inb_bcast (n := 5) (by decide))))
  iapply (gather_sv d L sv) $$ Hv; iintro Hv
  rw [loadIdx_eq, gat_bcast (n := 5) (by decide)]
  iapply (step_assume d L (inb_of (inb_bcast (n := 5) (by decide))))
  iapply (gather_sk d L w) $$ Hk; iintro Hk
  rw [loadIdx_eq, gat_bcast (n := 5) (by decide)]
  iapply (step_assume d L ((inb_lo (F := F) (sv := sv) (n := 5) t2.isLt (hsv _))))
  iapply (gather_row d L fi (idx_lo (F := F) (sv := sv) (n := 5) t2.isLt (hsv _))) $$ Hi; iintro Hi
  iapply (step_assume d L ((inb_hi (F := F) (sv := sv) (n := 5) t2.isLt (hsv _))))
  iapply (gather_row d L fi (idx_hi (F := F) (sv := sv) (n := 5) t2.isLt (hsv _))) $$ Hi; iintro Hi
  iapply (load_ou d L _) $$ Ho; iintro Ho
  iapply (store_ou d L _ _ h6) $$ Ho; iintro Ho
  iapply (load_ou d L _) $$ Ho; iintro Ho
  iapply (store_ou d L _ _ h7) $$ Ho; iintro Ho
  iapply (step_pure d L)
  iapply HQ
  isplitl [Ha]; · iexact Ha
  isplitl [Hd]; · iexact Hd
  isplitl [Hi]; · iexact Hi
  isplitl [Ho]
  · iexists _
    isplitr
    rotate_left
    · iexact Ho
    · ipureintro
      have e0 : k1_pay4 (acc fi w sv t2 0 5) (fun _ => w (ixN 16 5)) (intRow fi sv t2 0 5) = cand fi r0 r1 (fun _ => fd (ixN 16 t2)) t2 0 := by
        rw [← hw, ← hv]; rfl
      have e1 : k1_pay6 (acc fi w sv t2 1 4) (mulf (fun _ => w (ixN 16 4)) (intRow fi sv t2 1 4)) (fun _ => w (ixN 16 5)) (intRow fi sv t2 1 5)
          = cand fi r0 r1 (fun _ => fd (ixN 16 t2)) t2 1 := by
        rw [← hw, ← hv]; rfl
      rw [e0, e1]
      exact hdone
  isplitl [Hy]; · iexists _; iexact Hy
  isplitl [Hk]; · iexists _; iexact Hk
  iexists _; iexact Hv

/-! ## One user -/

theorem t2_body (hw6 : k1_chk6 k1_pay2) (t2 : Fin k1_t2_loop.trips) (fa : Vec F S1280 .f32) (fd : Vec F S16 .i32)
    (fi : Vec F S8192 .f32) {Q : Unit → sProp 𝕄} :
    grp d L fa fd fi (t2.val * 5) ⊢ iprop((grp d L fa fd fi ((t2.val + 1) * 5) -∗ Q ⟨⟩) -∗
      wpT d L (k1_t2_body L awH (Memref.isWhole_whole _) dkH (Memref.isWhole_whole _) inH (Memref.isWhole_whole _) ouH (Memref.isWhole_whole _) awV (Memref.isWhole_whole _) dkV (Memref.isWhole_whole _) inV (Memref.isWhole_whole _) ouV (Memref.isWhole_whole _) kyV (Memref.isWhole_whole _) skV (Memref.isWhole_whole _) svV (Memref.isWhole_whole _) cc1_scoped0 cc1_scoped1 cc1_scoped2 cc1_scoped3 io k1_pay2 hw6 t2 ⟨⟩) Q) := by
  have h2 : t2.val < 16 := lt_of_lt_of_le t2.isLt (by decide)
  unfold k1_t2_body
  iintro HG HQ
  unfold grp
  icases HG with ⟨Ha, Hd, HR⟩
  iapply (step_assume d L (inb_of (N := 16) (v := broadcast S16 (Scf.iv 0#32 1#32 t2.val)) (by rw [iv_eq]; exact inb_bcast h2)))
  iapply (gather_dk d L fd) $$ Hd; iintro Hd
  rw [loadIdx_eq, gat_iv h2]
  iapply (Scf.wp_for_bind frame (wpE (defs₀ (F := F)) 𝒱₀ (th d L) none) Set.univ _ _ _ k1_t3_ok ⟨⟩ _
    (fun n _ => grp d L fa fd fi (t2.val * 5 + n)) ?step) $$ [Ha Hd HR]
  case step =>
    intro t a
    iintro HG
    iapply (t3_body d L hw6 t2 t fa fd fi) $$ HG
    iintro HG
    iexact HG
  · unfold grp
    isplitl [Ha]; · iexact Ha
    isplitl [Hd]; · iexact Hd
    iexact HR
  · iintro %a HG
    have e5 : t2.val * 5 + Scf.trips k1_t3_loop.lb k1_t3_loop.ub k1_t3_loop.st = (t2.val + 1) * 5 := by
      have : Scf.trips k1_t3_loop.lb k1_t3_loop.ub k1_t3_loop.st = 5 := by decide
      omega
    rw [e5]
    iapply (step_pure d L)
    iapply HQ
    unfold grp
    iexact HG

end Cert.Proof.Run

end
-- ==== Proof.Tile2.lean ====
/-
The tile task: sixteen groups of eight users, each copied in, computed and copied out.
-/
module

public import proofs.«01_k».proof.Proof.Tile1

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F]

/-! ## What the call leaves in the result -/

/-- `M` elements of `f` from element `o`. -/
def seg {α : Type} (N M : ℕ) [NeZero N] (f : (⟨1, ![N]⟩ : Shape).Idx → α) (o : ℕ) : (⟨1, ![M]⟩ : Shape).Idx → α :=
  fun x => f (ixN N (o + (x 0).val))

/-- The result of the call from the flat weights `gA`, the counts `gD` and the flat interests `gI`: group by group of eight users. -/
def scOut (gA : Vec F S655360 .f32) (gD : Vec F S4112 .i32) (gI : Vec F S4194304 .f32) : Vec F S655360 .f32 := fun y =>
  outL (seg 655360 1280 gA ((y 0).val / 1280 * 1280)) (seg 4112 16 gD ((y 0).val / 1280 * 8)) (seg 4194304 8192 gI ((y 0).val / 1280 * 8192))
    (ixN 1280 ((y 0).val % 1280))

/-- The number of the task at coordinates `L`. -/
def wid (L : grid1.Coords) : ℕ := 2 * (L 1).val + (L 0).val

/-- The elements of the result that the task at coordinates `L` writes. -/
def chunk (L : grid1.Coords) : Finset S655360.Idx := Finset.univ.filter fun y => wid L * 20480 ≤ (y 0).val ∧ (y 0).val < (wid L + 1) * 20480

theorem mem_chunk {L : grid1.Coords} {y : S655360.Idx} : y ∈ chunk L ↔ wid L * 20480 ≤ (y 0).val ∧ (y 0).val < (wid L + 1) * 20480 := by
  unfold chunk; simp

/-- The first `n` groups of the task are written. -/
def Written (L : grid1.Coords) (gA : Vec F S655360 .f32) (gD : Vec F S4112 .i32) (gI : Vec F S4194304 .f32) (n : ℕ) (f : Vec F S655360 .f32) : Prop :=
  ∀ y : S655360.Idx, wid L * 20480 ≤ (y 0).val → (y 0).val < wid L * 20480 + n * 1280 → f y = scOut gA gD gI y

variable (d : Dev nD) (L : grid1.Coords) (O : CellTallies nD τ sig (HIx 1)) (W : Waits sig (HIx 1)) (q : PosShare TreeShare)

abbrev ouS (t1 : Fin k1_t1_loop.trips) : Memref sig .scVector .hbm S1280 .f32 :=
  ouH.slice (Rect.unit (s := S655360) (k1_off8 L t1) S1280.size (k1_off8_inb L t1)) (fun _ => rfl)

theorem off8_val (t1 : Fin k1_t1_loop.trips) : k1_off8 L t1 0 = wid L * 20480 + t1.val * 1280 := by
  rw [k1_off8_eq]
  show 40960 * (L 1).val + 20480 * (L 0).val + 1280 * t1.val = _
  unfold wid; omega
theorem off1_val (t1 : Fin k1_t1_loop.trips) : k1_off1 L t1 0 = wid L * 20480 + t1.val * 1280 := by
  rw [k1_off1_eq]
  show 40960 * (L 1).val + 20480 * (L 0).val + 1280 * t1.val = _
  unfold wid; omega
theorem off2_val (t1 : Fin k1_t1_loop.trips) : k1_off2 L t1 0 = wid L * 128 + t1.val * 8 := by
  rw [k1_off2_eq]
  show 256 * (L 1).val + 128 * (L 0).val + 8 * t1.val = _
  unfold wid; omega
theorem off3_val (t1 : Fin k1_t1_loop.trips) : k1_off3 L t1 0 = wid L * 131072 + t1.val * 8192 := by
  rw [k1_off3_eq]
  show 262144 * (L 1).val + 131072 * (L 0).val + 8192 * t1.val = _
  unfold wid; omega

theorem ouS_emb (t1 : Fin k1_t1_loop.trips) (x : S1280.Idx) : ((ouS L t1).view.emb x 0).val = wid L * 20480 + t1.val * 1280 + (x 0).val := by
  rw [← off8_val]
  show k1_off8 L t1 0 + 1 * (x 0).val = _
  rw [Nat.one_mul]

theorem mem_ouS (t1 : Fin k1_t1_loop.trips) (y : S655360.Idx) :
    y ∈ (ouS L t1).view.set ↔ wid L * 20480 + t1.val * 1280 ≤ (y 0).val ∧ (y 0).val < wid L * 20480 + t1.val * 1280 + 1280 := by
  unfold View.set
  constructor
  · intro hm
    obtain ⟨x, -, hx⟩ := Finset.mem_map.1 hm
    have hv := ouS_emb L t1 x
    rw [hx] at hv
    have h0 : (x 0).val < 1280 := (x 0).isLt
    omega
  · intro h
    refine Finset.mem_map.2 ⟨ixN 1280 ((y 0).val - (wid L * 20480 + t1.val * 1280)), Finset.mem_univ _, ?_⟩
    apply idx_ext (N := 655360)
    rw [ouS_emb, ixN_zero_val, Nat.mod_eq_of_lt (by omega)]; omega

theorem ouS_sub (t1 : Fin k1_t1_loop.trips) : (ouS L t1).view.set ⊆ chunk L := by
  intro y hy
  have h := (mem_ouS L t1 y).1 hy
  have ht : t1.val < 16 := lt_of_lt_of_le t1.isLt (by decide)
  rw [mem_chunk]
  generalize (y 0).val = n at h ⊢
  generalize wid L = w at h ⊢
  generalize t1.val = t at h ht
  exact ⟨by omega, by omega⟩

/-- A group's results written over the array extend the written part by the group. -/
theorem written_step (t1 : Fin k1_t1_loop.trips) {gA : Vec F S655360 .f32} {gD : Vec F S4112 .i32} {gI : Vec F S4194304 .f32} {f : Vec F S655360 .f32}
    {g : Vec F S1280 .f32} (hf : Written L gA gD gI t1.val f)
    (hg : ∀ x, g x = outL (seg 655360 1280 gA (wid L * 20480 + t1.val * 1280)) (seg 4112 16 gD (wid L * 128 + t1.val * 8))
      (seg 4194304 8192 gI (wid L * 131072 + t1.val * 8192)) x) :
    Written L gA gD gI (t1.val + 1) ((ouS L t1).view.write (Elt F) f g Finset.univ) := by
  intro y h1 h2
  by_cases h : (y 0).val < wid L * 20480 + t1.val * 1280
  · have hy : y ∉ (ouS L t1).view.setOn Finset.univ := fun hm => by
      have := (mem_ouS L t1 y).1 hm
      omega
    exact (View.write_of_not_mem (v := (ouS L t1).view) (Val := Elt F) f g Finset.univ hy).trans (hf y h1 h)
  · have hy : y = (ouS L t1).view.emb (ixN 1280 ((y 0).val - (wid L * 20480 + t1.val * 1280))) := by
      apply idx_ext (N := 655360)
      rw [ouS_emb, ixN_zero_val, Nat.mod_eq_of_lt (by omega)]; omega
    have e := View.write_emb_of_mem (v := (ouS L t1).view) (Val := Elt F) f g
      (M := Finset.univ) (x := ixN 1280 ((y 0).val - (wid L * 20480 + t1.val * 1280))) (Finset.mem_univ _)
    rw [← hy] at e
    refine e.trans ((hg _).trans ?_)
    unfold scOut
    have e1 : (y 0).val / 1280 * 1280 = wid L * 20480 + t1.val * 1280 := by omega
    have e2 : (y 0).val / 1280 * 8 = wid L * 128 + t1.val * 8 := by omega
    have e3 : (y 0).val / 1280 * 8192 = wid L * 131072 + t1.val * 8192 := by omega
    have e4 : (y 0).val - (wid L * 20480 + t1.val * 1280) = (y 0).val % 1280 := by omega
    rw [e1, e2, e3, e4]

/-! ## One group of eight users -/

/-- The task between two groups: its shares of the arrays that are read, its part of the result with the first `n` groups written, its scratch
    buffers, its four semaphores at zero, what it owes. -/
def tsk (gA : Vec F S655360 .f32) (gD : Vec F S4112 .i32) (gI : Vec F S4194304 .f32) (n : ℕ) : sProp 𝕄 :=
  iprop(Transfers.MayWaits (th d L) (none : HIx 1) O
    ∗ ((awH).view.loc (th d L) ↦{q} gA) ∗ ((dkH).view.loc (th d L) ↦{q} gD) ∗ ((inH).view.loc (th d L) ↦{q} gI)
    ∗ (∃ f, ⌜Written L gA gD gI n f⌝ ∗ (ouH).view.loc (th d L) ↦[chunk L]{fullShare} f)
    ∗ (∃ f, awP d L f) ∗ (∃ f, dkP d L f) ∗ (∃ f, inP d L f) ∗ (∃ f, ouP d L f) ∗ (∃ f, kyP d L f) ∗ (∃ f, skP d L f) ∗ (∃ f, svP d L f)
    ∗ semVal (th d L, SemLoc.dma cc1_scoped0.sem) 0 ∗ semVal (th d L, SemLoc.dma cc1_scoped1.sem) 0
    ∗ semVal (th d L, SemLoc.dma cc1_scoped2.sem) 0 ∗ semVal (th d L, SemLoc.dma cc1_scoped3.sem) 0
    ∗ ∃ W', ⌜∀ p ∈ W', p ∈ W ∨ p.2 = none⌝ ∗ owes (th d L) O W')

theorem slice_emb (t1 : Fin k1_t1_loop.trips) (x : S1280.Idx) :
    ((ouS L t1).view.slice (Rect.whole S1280)).emb x = (ouS L t1).view.emb x :=
  congrArg (ouS L t1).view.emb (idx_ext (N := 1280) (by show 0 + 1 * (x 0).val = (x 0).val; omega))

theorem slice_set (t1 : Fin k1_t1_loop.trips) : ((ouS L t1).view.slice (Rect.whole S1280)).set = (ouS L t1).view.set := by
  rw [View.set_slice, Rect.set_whole]; rfl

/-- One copy over the whole slice is a write of the slice. -/
theorem writes_one (t1 : Fin k1_t1_loop.trips) (f : Vec F S655360 .f32) (g : Vec F S1280 .f32) (y : S655360.Idx) :
    (ouS L t1).view.writes (Elt F) f [⟨Rect.whole S1280, g⟩] y = (ouS L t1).view.write (Elt F) f g Finset.univ y := by
  rw [View.writes_singleton]
  by_cases hy : y ∈ (ouS L t1).view.set
  · obtain ⟨x, -, hx⟩ := Finset.mem_map.1 hy
    subst hx
    have a := View.write_emb_of_mem (v := (ouS L t1).view.slice (Rect.whole S1280)) (Val := Elt F) f g (Finset.mem_univ x)
    rw [slice_emb] at a
    exact a.trans (View.write_emb_of_mem (v := (ouS L t1).view) (Val := Elt F) f g (Finset.mem_univ x)).symm
  · have hn : y ∉ ((ouS L t1).view.slice (Rect.whole S1280)).setOn Finset.univ := by
      rw [View.setOn_univ, slice_set]; exact hy
    exact (View.write_of_not_mem (v := (ouS L t1).view.slice (Rect.whole S1280)) (Val := Elt F) f g Finset.univ hn).trans
      (View.write_of_not_mem (v := (ouS L t1).view) (Val := Elt F) f g Finset.univ hy).symm

/-- The group's slice and the rest are the part. -/
theorem join_whole (t1 : Fin k1_t1_loop.trips) (w : Vec F S655360 .f32) :
    (iprop(((ouS L t1).view.loc (th d L) ↦[(ouS L t1).view.set]{fullShare} w)
      ∗ (ouH).view.loc (th d L) ↦[chunk L \ (ouS L t1).view.set]{fullShare} w) : sProp 𝕄)
    ⊢ (ouH).view.loc (th d L) ↦[chunk L]{fullShare} w := by
  have e3 : (((ouS L t1).view.loc (th d L) ↦[(ouS L t1).view.set]{fullShare} w : sProp 𝕄))
    = (ouH).view.loc (th d L) ↦[(ouS L t1).view.set]{fullShare} w := rfl
  rw [e3]
  have h := pointsTo_split_subset (ℓ := (ouH).view.loc (th d L)) (Val := Elt F) (Ix := HIx 1) (Name := ℕ) (U := UU) (Lvl := ℕ) (q := fullShare) (f := w) (ouS_sub L t1)
  exact h.2

/-- The group's slice after the copy, with the rest of the task's part: the part with the group written. -/
theorem join_pts (t1 : Fin k1_t1_loop.trips) (f : Vec F S655360 .f32) (g : Vec F S1280 .f32) :
    (iprop(((ouS L t1).view.loc (th d L) ↦[(ouS L t1).view.set]{fullShare} (ouS L t1).view.writes (Elt F) f [⟨Rect.whole S1280, g⟩])
      ∗ (ouH).view.loc (th d L) ↦[chunk L \ (ouS L t1).view.set]{fullShare} f) : sProp 𝕄)
    ⊢ (ouH).view.loc (th d L) ↦[chunk L]{fullShare} (ouS L t1).view.write (Elt F) f g Finset.univ := by
  have e1 : (ouS L t1).view.writes (Elt F) f [⟨Rect.whole S1280, g⟩] = (ouS L t1).view.write (Elt F) f g Finset.univ :=
    funext (writes_one L t1 f g)
  have e2 : ((ouH).view.loc (th d L) ↦[chunk L \ (ouS L t1).view.set]{fullShare} f : sProp 𝕄)
      = (ouH).view.loc (th d L) ↦[chunk L \ (ouS L t1).view.set]{fullShare} (ouS L t1).view.write (Elt F) f g Finset.univ :=
    pointsTo_congr fun y hy => (View.write_of_not_mem (v := (ouS L t1).view) (Val := Elt F) f g Finset.univ (Finset.mem_sdiff.1 hy).2).symm
  rw [e1, e2]
  exact join_whole d L t1 _

theorem t1_body (hw6 : k1_chk6 k1_pay2) (t1 : Fin k1_t1_loop.trips) (gA : Vec F S655360 .f32) (gD : Vec F S4112 .i32) (gI : Vec F S4194304 .f32) :
    tsk d L O W q gA gD gI t1.val ⊢ wpT d L (k1_t1_body L awH (Memref.isWhole_whole _) dkH (Memref.isWhole_whole _) inH (Memref.isWhole_whole _) ouH (Memref.isWhole_whole _) awV (Memref.isWhole_whole _) dkV (Memref.isWhole_whole _) inV (Memref.isWhole_whole _) ouV (Memref.isWhole_whole _) kyV (Memref.isWhole_whole _) skV (Memref.isWhole_whole _) svV (Memref.isWhole_whole _) cc1_scoped0 cc1_scoped1 cc1_scoped2 cc1_scoped3 io k1_pay2 hw6 t1 ⟨⟩) (fun _ => tsk d L O W q gA gD gI (t1.val + 1)) := by
  unfold tsk k1_t1_body
  iintro ⟨Hmw, HA, HD, HI, ⟨%fo, %hfo, HO⟩, ⟨%f0, Ha⟩, ⟨%f1, Hd⟩, ⟨%f2, Hi⟩, ⟨%f3, Ho⟩, Hy, Hk, Hv, Hs0, Hs1, Hs2, Hs3, %W', %hW', Howes⟩
  unfold wpT
  sl_exec (disch := exact View.amount_pos _ _ (by decide))
  have ea : View.write (Elt F) awV.view f0 (t1_body.sl.dma0 L t1 gA) Finset.univ = seg 655360 1280 gA (wid L * 20480 + t1.val * 1280) := by
    refine (View.write_whole_univ _ _ _).trans (funext fun x => congrArg gA (idx_eq_ixN (N := 655360) ?_))
    rw [← off1_val]
    show k1_off1 L t1 0 + 1 * (x 0).val = _
    rw [Nat.one_mul]
  have ed : View.write (Elt F) dkV.view f1 (t1_body.sl.dma0_1 L t1 gD) Finset.univ = seg 4112 16 gD (wid L * 128 + t1.val * 8) := by
    refine (View.write_whole_univ _ _ _).trans (funext fun x => congrArg gD (idx_eq_ixN (N := 4112) ?_))
    rw [← off2_val]
    show k1_off2 L t1 0 + 1 * (x 0).val = _
    rw [Nat.one_mul]
  have ei : View.write (Elt F) inV.view f2 (t1_body.sl.dma0_2 L t1 gI) Finset.univ = seg 4194304 8192 gI (wid L * 131072 + t1.val * 8192) := by
    refine (View.write_whole_univ _ _ _).trans (funext fun x => congrArg gI (idx_eq_ixN (N := 4194304) ?_))
    rw [← off3_val]
    show k1_off3 L t1 0 + 1 * (x 0).val = _
    rw [Nat.one_mul]
  rw [ea, ed, ei]
  iapply (Scf.wp_for_bind frame (wpE (defs₀ (F := F)) 𝒱₀ (th d L) none) Set.univ _ _ _ k1_t2_ok ⟨⟩ _
    (fun n _ => grp d L (seg 655360 1280 gA (wid L * 20480 + t1.val * 1280)) (seg 4112 16 gD (wid L * 128 + t1.val * 8))
      (seg 4194304 8192 gI (wid L * 131072 + t1.val * 8192)) (n * 5)) ?step) $$ [Ha Hd Hi Ho Hy Hk Hv]
  case step =>
    intro t a
    iintro HG
    iapply (t2_body d L hw6 t _ _ _) $$ HG
    iintro HG
    iexact HG
  · unfold grp
    isplitl [Ha]; · iexact Ha
    isplitl [Hd]; · iexact Hd
    isplitl [Hi]; · iexact Hi
    isplitl [Ho]
    · iexists f3
      isplitr
      · ipureintro; intro y hy; omega
      · iexact Ho
    isplitl [Hy]; · iexact Hy
    isplitl [Hk] <;> iassumption
  iintro %a HG
  have e8 : Scf.trips k1_t2_loop.lb k1_t2_loop.ub k1_t2_loop.st = 8 := by decide
  rw [e8]
  unfold grp
  icases HG with ⟨Ha, Hd, Hi, ⟨%fr, %hfr, Ho⟩, Hy, Hk, Hv⟩
  ihave HO2 := (pointsTo_split_subset (q := fullShare) (f := fo) (ouS_sub L t1)).1 $$ HO
  icases HO2 with ⟨HOs, HOr⟩
  ihave HOs' := (Entails.of_eq (show (((ouH).view.loc (th d L) ↦[(ouS L t1).view.set]{fullShare} fo : sProp 𝕄))
    = (ouS L t1).view.loc (th d L) ↦[(ouS L t1).view.set]{fullShare} fo from rfl)) $$ HOs
  sl_exec (disch := exact View.amount_pos _ _ (by decide))
  have hgr : ∀ x, fr x = outL (seg 655360 1280 gA (wid L * 20480 + t1.val * 1280)) (seg 4112 16 gD (wid L * 128 + t1.val * 8))
      (seg 4194304 8192 gI (wid L * 131072 + t1.val * 8192)) x := fun x => hfr x (by have := (x 0).isLt; simpa using this)
  ihave HOj := (join_pts d L t1 fo fr) $$ [HOs' HOr]
  · isplitl [HOs']
    · iexact HOs'
    · iexact HOr
  sl_step
  isplitl [Hmw]; · iexact Hmw
  isplitl [HA]; · iexact HA
  isplitl [HD]; · iexact HD
  isplitl [HI]; · iexact HI
  isplitl [HOj]
  · iexists _
    isplitr
    · ipureintro; exact written_step L t1 hfo hgr
    · iexact HOj
  isplitl [Ha]; · iexists _; iexact Ha
  isplitl [Hd]; · iexists _; iexact Hd
  isplitl [Hi]; · iexists _; iexact Hi
  isplitl [Ho]; · iexists _; iexact Ho
  isplitl [Hy]; · iexact Hy
  isplitl [Hk]; · iexact Hk
  isplitl [Hv]; · iexact Hv
  isplitl [Hs0]; · iexact Hs0
  isplitl [Hs1]; · iexact Hs1
  isplitl [Hs2]; · iexact Hs2
  isplitl [Hs3]; · iexact Hs3
  iexists _
  isplitr
  swap
  · iexact Howes
  ipureintro
  intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-! ## The whole task -/

/-- The sixteen groups: from nothing written to the whole part written. -/
theorem task_loop (gA : Vec F S655360 .f32) (gD : Vec F S4112 .i32) (gI : Vec F S4194304 .f32) :
    tsk d L O W q gA gD gI 0 ⊢ wp frame (wpE (defs₀ (F := F)) 𝒱₀ (th d L) none) Set.univ (cc1_sc_kernel L awH (Memref.isWhole_whole _) dkH (Memref.isWhole_whole _) inH (Memref.isWhole_whole _) ouH (Memref.isWhole_whole _) awV (Memref.isWhole_whole _) dkV (Memref.isWhole_whole _) inV (Memref.isWhole_whole _) ouV (Memref.isWhole_whole _) kyV (Memref.isWhole_whole _) skV (Memref.isWhole_whole _) svV (Memref.isWhole_whole _) cc1_scoped0 cc1_scoped1 cc1_scoped2 cc1_scoped3) (fun _ => tsk d L O W q gA gD gI 16) := by
  simp only [cc1_sc_kernel_eq_skeleton]
  unfold cc1_sc_kernel_skel
  unfold Scf.Loop.for
  iintro H
  iapply (step_assume d L chk6)
  unfold wpT
  iapply (Scf.wp_for_bind frame (wpE (defs₀ (F := F)) 𝒱₀ (th d L) none) Set.univ _ _ _ k1_t1_ok ⟨⟩ _
    (fun n _ => tsk d L O W q gA gD gI n) ?step) $$ H
  case step =>
    intro t a
    exact t1_body d L O W q chk6 t gA gD gI
  iintro %a HG
  have e16 : Scf.trips k1_t1_loop.lb k1_t1_loop.ub k1_t1_loop.st = 16 := by decide
  rw [e16]
  iapply (step_pure d L (Q := fun _ => tsk d L O W q gA gD gI 16) PUnit.unit) $$ HG

end Cert.Proof.Run

end
-- ==== Proof.Task.lean ====
/-
  The task as the launch theorem asks for it: what each task is handed and hands back, the task's proof at its own buffers and
  semaphores, and how the arrays split over the thirty-two tasks.

-/
module

public import proofs.«01_k».proof.Proof.Tile2
public import Idealize.ShloMosaic.Lib.ShareLeaves

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Idealize.ShloMosaic.ShareLeaves (leaf pointsTo_leaves)

/-! ## The arrays of the call, seen from the TensorCore -/

abbrev aLoc (d : Dev nD) : Loc nD τ sig := (SparseCore.T d).loc main_v19
abbrev kLoc (d : Dev nD) : Loc nD τ sig := (SparseCore.T d).loc main_v14
abbrev iLoc (d : Dev nD) : Loc nD τ sig := (SparseCore.T d).loc main_v20
abbrev oLoc (d : Dev nD) : Loc nD τ sig := (SparseCore.T d).loc main_v21

/-- Task `w`'s part of the result. -/
def part (w : ℕ) : Finset S655360.Idx := Finset.univ.filter fun y => w * 20480 ≤ (y 0).val ∧ (y 0).val < (w + 1) * 20480

/-- The number of the task on vector subcore `i` of SparseCore `c`. -/
def tno (c : Fin 2) (i : Fin 16) : Fin (2 ^ 5) := ⟨2 * i.val + c.val, by omega⟩

variable (vA : Dev nD → Vec F S655360 .f32) (vD : Dev nD → Vec F S4112 .i32) (vI : Dev nD → Vec F S4194304 .f32)

/-- What a task holds of the arrays: its share of the three it reads, its part of the result at `f`. -/
def hand (d : Dev nD) (w : Fin (2 ^ 5)) (f : Vec F S655360 .f32) : sProp 𝕄 :=
  iprop((aLoc d ↦{leaf 5 fullShare w} vA d) ∗ (kLoc d ↦{leaf 5 fullShare w} vD d) ∗ (iLoc d ↦{leaf 5 fullShare w} vI d) ∗ oLoc d ↦[part w.val]{fullShare} f)

instance hand_storable (d : Dev nD) (w : Fin (2 ^ 5)) (f : Vec F S655360 .f32) : BI.Storable (upEmb : UEmb _ 𝕄) (hand vA vD vI d w f) := by
  unfold hand; infer_instance

variable [FloatOps F] (vO : Dev nD → Vec F S655360 .f32)

/-- The one call: a SparseCore is handed its sixteen tasks' parts and hands them back with the results written. -/
def P : (K (F := F)).Pay (nD := nD) (Val := Elt F) (Name := ℕ) (U := UU) where
  st := fun q d c => match q with | 0 => bigSep Finset.univ fun i : Fin 16 => hand vA vD vI d (tno c i) (vO d)
  dn := fun q d c => match q with | 0 => bigSep Finset.univ fun i : Fin 16 => hand vA vD vI d (tno c i) (scOut (vA d) (vD d) (vI d))
  go := fun q d c i => match q with | 0 => hand vA vD vI d (tno c i) (vO d)
  td := fun q d c i => match q with | 0 => hand vA vD vI d (tno c i) (scOut (vA d) (vD d) (vI d))
  x := fun _ _ => iprop(emp)

instance P_storable : (P vA vD vI vO).IsStorable where
  st q d c := match q with | 0 => (inferInstance : BI.Storable (upEmb : UEmb _ 𝕄) (bigSep Finset.univ fun i : Fin 16 => hand vA vD vI d (tno c i) (vO d)))
  dn q d c := match q with | 0 => (inferInstance : BI.Storable (upEmb : UEmb _ 𝕄) (bigSep Finset.univ fun i : Fin 16 => hand vA vD vI d (tno c i) (scOut (vA d) (vD d) (vI d))))
  go q d c i := match q with | 0 => (inferInstance : BI.Storable (upEmb : UEmb _ 𝕄) (hand vA vD vI d (tno c i) (vO d)))
  td q d c i := match q with | 0 => (inferInstance : BI.Storable (upEmb : UEmb _ 𝕄) (hand vA vD vI d (tno c i) (scOut (vA d) (vD d) (vI d))))

theorem vecSplit : (K (F := F)).VecSplit' (P vA vD vI vO) 0 := by
  intro d c
  show (bigSep Finset.univ fun i : Fin 16 => hand vA vD vI d (tno c i) (vO d)) ⊢ |={Set.univ}=> iprop(
    (bigSep Finset.univ fun i : Fin 16 => hand vA vD vI d (tno c i) (vO d))
    ∗ ((bigSep Finset.univ fun i : Fin 16 => hand vA vD vI d (tno c i) (scOut (vA d) (vD d) (vI d)))
      -∗ (bigSep Finset.univ fun i : Fin 16 => hand vA vD vI d (tno c i) (scOut (vA d) (vD d) (vI d)))))
  iintro H
  imodintro
  isplitl [H]; · iexact H
  iintro H; iexact H

/-! ## The subcore's own buffers and semaphores -/

section Own

variable (d : Dev nD) (L : grid1.Coords)

abbrev cell (s : DmaSems sig S_) : GSem nD τ sig := (th d L, .dma s.sem)

omit [FloatOps F] in
theorem cell_ne {s s' : DmaSems sig S_} (h : s.sem ≠ s'.sem) : cell d L s ≠ cell d L s' := fun e => h (by
  have e2 := (Prod.mk.injEq _ _ _ _ ▸ e).2
  exact SemLoc.dma.inj e2)

theorem ref_ne {a b : Ref sig .scVector} (h : a ≠ b) : (Proc.scVector (cV L) (jV L)).devRef a ≠ (Proc.scVector (cV L) (jV L)).devRef b :=
  fun e => h (Proc.devRef_injective _ e)

theorem own_mem (b : DevRef τ sig) (h : b.owner = .proc (Proc.scVector (cV L) (jV L))) : b ∈ ownRefs (τ := τ) (sig := sig) (.scVector (cV L) (jV L)) :=
  SparseCore.Cfg.mem_ownRefs_of_owner h

/-- The subcore's other semaphores and buffers. -/
def restSems : sProp 𝕄 := bigSep (((((ownCells (th d L)).erase (cell d L cc1_scoped0)).erase (cell d L cc1_scoped1)).erase (cell d L cc1_scoped2)).erase (cell d L cc1_scoped3)) fun g => semVal g 0
def restBufs : sProp 𝕄 := bigSep ((((((((ownRefs (τ := τ) (sig := sig) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6))
  fun b => iprop(∃ f, ((d, b) : Loc nD τ sig) ↦{fullShare} f)

omit [FloatOps F] in
theorem sems_eq : (ownSems0 (th d L) : sProp 𝕄)
    = iprop(semVal (cell d L cc1_scoped0) 0 ∗ semVal (cell d L cc1_scoped1) 0 ∗ semVal (cell d L cc1_scoped2) 0 ∗ semVal (cell d L cc1_scoped3) 0 ∗ restSems d L) := by
  unfold SparseCore.Cfg.ownSems0 restSems
  rw [SparseCore.bigSep_erase' ((mem_ownCells (g := cell d L cc1_scoped0)).mpr ⟨rfl, by show (SemLoc.dma cc1_scoped0.sem : SemLoc sig).isScoped .scVector = true; decide⟩),
    SparseCore.bigSep_erase' (Finset.mem_erase.mpr ⟨cell_ne d L (by decide), (mem_ownCells (g := cell d L cc1_scoped1)).mpr ⟨rfl, by show (SemLoc.dma cc1_scoped1.sem : SemLoc sig).isScoped .scVector = true; decide⟩⟩),
    SparseCore.bigSep_erase' (Finset.mem_erase.mpr ⟨cell_ne d L (by decide), Finset.mem_erase.mpr ⟨cell_ne d L (by decide), (mem_ownCells (g := cell d L cc1_scoped2)).mpr ⟨rfl, by show (SemLoc.dma cc1_scoped2.sem : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := cell d L cc1_scoped3)).mpr ⟨rfl, by show (SemLoc.dma cc1_scoped3.sem : SemLoc sig).isScoped .scVector = true; decide⟩⟩⟩⟩)]

omit [FloatOps F] in
theorem bufs_eq : (ownBufs (th d L) : sProp 𝕄)
    = iprop((∃ f, awP d L f) ∗ (∃ f, dkP d L f) ∗ (∃ f, inP d L f) ∗ (∃ f, ouP d L f) ∗ (∃ f, kyP d L f) ∗ (∃ f, skP d L f) ∗ (∃ f, svP d L f) ∗ restBufs d L) := by
  unfold SparseCore.Cfg.ownBufs restBufs
  refine (SparseCore.bigSep_erase' (own_mem L ((Proc.scVector (cV L) (jV L)).devRef cc1_scratch0) rfl)).trans ?_
  rw [SparseCore.bigSep_erase' (Finset.mem_erase.mpr ⟨ref_ne L (by decide), own_mem L ((Proc.scVector (cV L) (jV L)).devRef cc1_scratch1) rfl⟩),
    SparseCore.bigSep_erase' (Finset.mem_erase.mpr ⟨ref_ne L (by decide), Finset.mem_erase.mpr ⟨ref_ne L (by decide), own_mem L ((Proc.scVector (cV L) (jV L)).devRef cc1_scratch2) rfl⟩⟩),
    SparseCore.bigSep_erase' (Finset.mem_erase.mpr ⟨ref_ne L (by decide), Finset.mem_erase.mpr ⟨ref_ne L (by decide), Finset.mem_erase.mpr ⟨ref_ne L (by decide), own_mem L ((Proc.scVector (cV L) (jV L)).devRef cc1_scratch3) rfl⟩⟩⟩),
    SparseCore.bigSep_erase' (Finset.mem_erase.mpr ⟨ref_ne L (by decide), Finset.mem_erase.mpr ⟨ref_ne L (by decide), Finset.mem_erase.mpr ⟨ref_ne L (by decide), Finset.mem_erase.mpr ⟨ref_ne L (by decide), own_mem L ((Proc.scVector (cV L) (jV L)).devRef cc1_scratch4) rfl⟩⟩⟩⟩),
    SparseCore.bigSep_erase' (Finset.mem_erase.mpr ⟨ref_ne L (by decide), Finset.mem_erase.mpr ⟨ref_ne L (by decide), Finset.mem_erase.mpr ⟨ref_ne L (by decide), Finset.mem_erase.mpr ⟨ref_ne L (by decide), Finset.mem_erase.mpr ⟨ref_ne L (by decide), own_mem L ((Proc.scVector (cV L) (jV L)).devRef cc1_scratch5) rfl⟩⟩⟩⟩⟩),
    SparseCore.bigSep_erase' (Finset.mem_erase.mpr ⟨ref_ne L (by decide), Finset.mem_erase.mpr ⟨ref_ne L (by decide), Finset.mem_erase.mpr ⟨ref_ne L (by decide), Finset.mem_erase.mpr ⟨ref_ne L (by decide), Finset.mem_erase.mpr ⟨ref_ne L (by decide), Finset.mem_erase.mpr ⟨ref_ne L (by decide), own_mem L ((Proc.scVector (cV L) (jV L)).devRef cc1_scratch6) rfl⟩⟩⟩⟩⟩⟩)]
  rfl

/-! ## The task's proof -/

omit [FloatOps F] in
theorem chunk_eq : chunk L = part (wid L) := rfl

/-- The task is written after its sixteen groups: its part of the result holds the call's result. -/
theorem written_all {gA : Vec F S655360 .f32} {gD : Vec F S4112 .i32} {gI : Vec F S4194304 .f32} {f : Vec F S655360 .f32} (h : Written L gA gD gI 16 f) :
    ((ouH).view.loc (th d L) ↦[chunk L]{fullShare} f : sProp 𝕄) = (ouH).view.loc (th d L) ↦[chunk L]{fullShare} scOut gA gD gI :=
  pointsTo_congr fun y hy => h y (mem_chunk.1 hy).1 (by have := (mem_chunk.1 hy).2; omega)

theorem tile_body (hF : (K (F := F)).Facts) (w : Fin (2 ^ 5)) (hw : w.val = wid L) (O : CellTallies nD τ sig (HIx 1)) (W : Waits sig (HIx 1)) (hO : ∀ g, O g none = 0) :
    iprop(levAts (K (F := F)).L (K (F := F)).lev ∗ emp ∗ hand vA vD vI d w (vO d)
        ∗ scopedBufs (th d L) ∗ scopedSems0 (th d L) ∗ owes (th d L) O W)
      ⊢ wp frame (wpE (defs₀ (F := F)) 𝒱₀ (th d L) none) Set.univ (cc1_sc_kernel L awH (Memref.isWhole_whole _) dkH (Memref.isWhole_whole _) inH (Memref.isWhole_whole _) ouH (Memref.isWhole_whole _) awV (Memref.isWhole_whole _) dkV (Memref.isWhole_whole _) inV (Memref.isWhole_whole _) ouV (Memref.isWhole_whole _) kyV (Memref.isWhole_whole _) skV (Memref.isWhole_whole _) svV (Memref.isWhole_whole _) cc1_scoped0 cc1_scoped1 cc1_scoped2 cc1_scoped3)
          fun _ => iprop(hand vA vD vI d w (scOut (vA d) (vD d) (vI d)) ∗ scopedBufs (th d L) ∗ scopedSems0 (th d L)
            ∗ ∃ W', ⌜∀ p ∈ W', p ∈ W ∨ p.2 = none⌝ ∗ owes (th d L) O W') := by
  rw [(K (F := F)).scopedBufs_V hF d (cV L) (jV L), SparseCore.Cfg.scopedSems0_V (Val := Elt F) d (cV L) (jV L), sems_eq, bufs_eq]
  unfold hand
  iintro ⟨#Hlv, -, ⟨HA, HD, HI, HO⟩, ⟨Ha, Hd, Hi, Ho, Hy, Hk, Hv, HRB⟩, ⟨Hs0, Hs1, Hs2, Hs3, HRS⟩, Howes⟩
  ihave Hmw := (show levAts (K (F := F)).L (K (F := F)).lev ⊢ Transfers.MayWaits (th d L) (none : HIx 1) O from
    (K (F := F)).mayWaits_none (thr := th d L) hO) $$ Hlv
  rw [hw]
  ihave Hw := (task_loop d L O W (leaf 5 fullShare w) (vA d) (vD d) (vI d)) $$ [Hmw HA HD HI HO Ha Hd Hi Ho Hy Hk Hv Hs0 Hs1 Hs2 Hs3 Howes]
  · unfold tsk
    isplitl [Hmw]; · iexact Hmw
    isplitl [HA]; · iexact HA
    isplitl [HD]; · iexact HD
    isplitl [HI]; · iexact HI
    isplitl [HO]
    · iexists (vO d)
      isplitr
      · ipureintro; intro y h1 h2; omega
      · iexact HO
    isplitl [Ha]; · iexact Ha
    isplitl [Hd]; · iexact Hd
    isplitl [Hi]; · iexact Hi
    isplitl [Ho]; · iexact Ho
    isplitl [Hy]; · iexact Hy
    isplitl [Hk]; · iexact Hk
    isplitl [Hv]; · iexact Hv
    isplitl [Hs0]; · iexact Hs0
    isplitl [Hs1]; · iexact Hs1
    isplitl [Hs2]; · iexact Hs2
    isplitl [Hs3]; · iexact Hs3
    iexists W
    isplitr
    · ipureintro; exact fun p hp => .inl hp
    · iexact Howes
  iapply (wp_wand_r frame (wpE (defs₀ (F := F)) 𝒱₀ (th d L) none))
  isplitl [Hw]; · iexact Hw
  iintro %_ H
  unfold tsk
  icases H with ⟨-, HA, HD, HI, ⟨%fo, %hfo, HO⟩, Ha, Hd, Hi, Ho, Hy, Hk, Hv, Hs0, Hs1, Hs2, Hs3, Howes⟩
  ihave HO' := (Entails.of_eq (written_all d L hfo)) $$ HO
  isplitl [HA HD HI HO']
  · isplitl [HA]; · iexact HA
    isplitl [HD]; · iexact HD
    isplitl [HI]; · iexact HI
    iexact HO'
  isplitl [Ha Hd Hi Ho Hy Hk Hv HRB]
  · isplitl [Ha]; · iexact Ha
    isplitl [Hd]; · iexact Hd
    isplitl [Hi]; · iexact Hi
    isplitl [Ho]; · iexact Ho
    isplitl [Hy]; · iexact Hy
    isplitl [Hk]; · iexact Hk
    isplitl [Hv]; · iexact Hv
    iexact HRB
  isplitl [Hs0 Hs1 Hs2 Hs3 HRS]
  · isplitl [Hs0]; · iexact Hs0
    isplitl [Hs1]; · iexact Hs1
    isplitl [Hs2]; · iexact Hs2
    isplitl [Hs3]; · iexact Hs3
    iexact HRS
  iexact Howes

end Own

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_sc_kernel (coordsV c s) awH (Memref.isWhole_whole _) dkH (Memref.isWhole_whole _) inH (Memref.isWhole_whole _) ouH (Memref.isWhole_whole _) awV (Memref.isWhole_whole _) dkV (Memref.isWhole_whole _) inV (Memref.isWhole_whole _) ouV (Memref.isWhole_whole _) kyV (Memref.isWhole_whole _) skV (Memref.isWhole_whole _) svV (Memref.isWhole_whole _) cc1_scoped0 cc1_scoped1 cc1_scoped2 cc1_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
theorem tileObl (hF : (K (F := F)).Facts) : (K (F := F)).TileObl (D (F := F)) 𝒱 (P vA vD vI vO) v₀ 0 := by
  intro d c i O W hO _ _
  simp only [show (P vA vD vI vO).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body vA vD vI vO d (coordsV ⟨_, hci.1⟩ ⟨_, hci.2⟩) hF (tno c i) rfl O W hO).trans (wp_mono frame _ _ fun _ => obl_post)

/-! ## The arrays split over the tasks and join again -/

omit [FloatOps F] in
theorem tasks_eq (Φ : Fin (2 ^ 5) → sProp 𝕄) :
    (bigSep Finset.univ fun c : Fin 2 => bigSep Finset.univ fun i : Fin 16 => Φ (tno c i)) = bigSep Finset.univ Φ := by
  rw [bigSep_univ_comm, bigSep_univ_equiv (finProdFinEquiv : Fin 16 × Fin 2 ≃ Fin (16 * 2)) Φ, bigSep_univ_prod]
  refine bigSep_congr fun i _ => bigSep_congr fun c _ => congrArg Φ (Fin.ext ?_)
  show 2 * i.val + c.val = c.val + 2 * i.val
  omega

theorem part_disjoint : ∀ i ∈ (Finset.univ : Finset (Fin (2 ^ 5))), ∀ j ∈ (Finset.univ : Finset (Fin (2 ^ 5))), i ≠ j → Disjoint (part i.val) (part j.val) := by
  intro i _ j _ h
  have hij : i.val ≠ j.val := fun e => h (Fin.ext e)
  refine Finset.disjoint_left.2 fun y h1 h2 => hij ?_
  simp only [part, Finset.mem_filter, Finset.mem_univ, true_and] at h1 h2
  generalize (y 0).val = n at h1 h2
  generalize i.val = a at h1 ⊢
  generalize j.val = b at h2 ⊢
  omega

theorem part_cover (d : Dev nD) : (Finset.univ : Finset (Fin (2 ^ 5))).biUnion (fun w => (part w.val : Finset (Idx (oLoc d)))) = Finset.univ := by
  refine Finset.eq_univ_of_forall fun (y : S655360.Idx) => ?_
  have hy : (y 0).val < 655360 := (y 0).isLt
  refine Finset.mem_biUnion.2 ⟨⟨(y 0).val / 20480, ?_⟩, Finset.mem_univ _, ?_⟩
  · generalize (y 0).val = n at hy ⊢
    omega
  · simp only [part, Finset.mem_filter, Finset.mem_univ, true_and]
    generalize (y 0).val = n at hy ⊢
    omega

omit [FloatOps F] in
/-- A buffer held whole is thirty-two equal shares of it. -/
theorem leaves_eq (ℓ : Loc nD τ sig) (f : Buf (Elt F) ℓ) :
    (ℓ ↦{fullShare} f : sProp 𝕄) = bigSep Finset.univ fun w : Fin (2 ^ 5) => ℓ ↦{leaf 5 fullShare w} f :=
  pointsTo_leaves Finset.univ f 5 fullShare

omit [FloatOps F] in
/-- The four arrays whole are the thirty-two tasks' parts. -/
theorem hands_eq (d : Dev nD) (f : Vec F S655360 .f32) :
    (iprop((aLoc d ↦{fullShare} vA d) ∗ (kLoc d ↦{fullShare} vD d) ∗ (iLoc d ↦{fullShare} vI d) ∗ oLoc d ↦{fullShare} f) : sProp 𝕄)
      = bigSep Finset.univ fun w : Fin (2 ^ 5) => hand vA vD vI d w f := by
  unfold hand
  rw [bigSep_sep', bigSep_sep', bigSep_sep']
  have e1 : (aLoc d ↦{fullShare} vA d : sProp 𝕄) = bigSep Finset.univ fun w : Fin (2 ^ 5) => aLoc d ↦{leaf 5 fullShare w} vA d :=
    leaves_eq (aLoc d) (vA d)
  have e2 : (kLoc d ↦{fullShare} vD d : sProp 𝕄) = bigSep Finset.univ fun w : Fin (2 ^ 5) => kLoc d ↦{leaf 5 fullShare w} vD d :=
    leaves_eq (kLoc d) (vD d)
  have e3 : (iLoc d ↦{fullShare} vI d : sProp 𝕄) = bigSep Finset.univ fun w : Fin (2 ^ 5) => iLoc d ↦{leaf 5 fullShare w} vI d :=
    leaves_eq (iLoc d) (vI d)
  have e4 : (oLoc d ↦{fullShare} f : sProp 𝕄) = bigSep Finset.univ fun w : Fin (2 ^ 5) => oLoc d ↦[part w.val]{fullShare} f := by
    have h := pointsTo_biUnion (Ix := HIx 1) (Name := ℕ) (U := UU) (Lvl := ℕ) (Val := Elt F) (q := fullShare) (f := f) Finset.univ (ℓ := oLoc d) (fun w : Fin (2 ^ 5) => part w.val) part_disjoint
    exact (congrArg (fun S : Finset (Idx (oLoc d)) => (oLoc d ↦[S]{fullShare} f : sProp 𝕄)) (part_cover d).symm).trans h
  rw [e1, e2, e3, e4]

theorem st_eq (d : Dev nD) : (bigSep Finset.univ fun c : Fin ((K (F := F)).nCore 0) => (P vA vD vI vO).st 0 d c)
    = iprop((aLoc d ↦{fullShare} vA d) ∗ (kLoc d ↦{fullShare} vD d) ∗ (iLoc d ↦{fullShare} vI d) ∗ oLoc d ↦{fullShare} vO d) := by
  rw [hands_eq]
  exact tasks_eq fun w => hand vA vD vI d w (vO d)

theorem dn_eq (d : Dev nD) : (bigSep Finset.univ fun c : Fin ((K (F := F)).nCore 0) => (P vA vD vI vO).dn 0 d c)
    = iprop((aLoc d ↦{fullShare} vA d) ∗ (kLoc d ↦{fullShare} vD d) ∗ (iLoc d ↦{fullShare} vI d) ∗ oLoc d ↦{fullShare} scOut (vA d) (vD d) (vI d)) := by
  rw [hands_eq]
  exact tasks_eq fun w => hand vA vD vI d w (scOut (vA d) (vD d) (vI d))

end Cert.Proof.Run

end
-- ==== Proof.Launch.lean ====
/-
  The whole program on the TensorCore: the operations before the TensorCore's kernel, its region, the SparseCores' call, and the
  last reshape; from it the run of every thread, with what each buffer of the TensorCore holds at the end.
-/
module

public import proofs.«01_k».proof.Proof.TcRegion
public import proofs.«01_k».proof.Proof.Task
public import Idealize.ShloMosaic.Lib.StableHlo.Run

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Idealize.ShloMosaic.TcCoe
open Idealize.ShloMosaic.StableHlo (held wp_seq after)
open Idealize.ShloMosaic.Pipeline (ucRefs afterRegion cellOf)

variable [FloatOps F]

/-! ## @main as three lines of operations around the two kernels -/

abbrev ops0 : List (HloOp τ sig (Elt F)) :=
  [StableHlo.unary main_arg4 main_v0 (sitofp .f32 : (⟨S4096, .i32⟩ : BufTy).Contents (Elt F) → (⟨S4096, .f32⟩ : BufTy).Contents (Elt F)),
   StableHlo.nullary main_cst (constant S_ .f32 0x00000000#32),
   StableHlo.unary main_cst main_v1 (broadcastInDim S4096 ![] bcast_S_S4096 : (⟨S_, .f32⟩ : BufTy).Contents (Elt F) → (⟨S4096, .f32⟩ : BufTy).Contents (Elt F)),
   StableHlo.binary main_v0 main_v1 main_v2 (cmpf .ogt : (⟨S4096, .f32⟩ : BufTy).Contents (Elt F) → (⟨S4096, .f32⟩ : BufTy).Contents (Elt F) → (⟨S4096, .i1⟩ : BufTy).Contents (Elt F)),
   StableHlo.nullary main_cst_0 (constant S_ .f32 0x40000000#32),
   StableHlo.unary main_cst_0 main_v3 (broadcastInDim S4096 ![] bcast_S_S4096 : (⟨S_, .f32⟩ : BufTy).Contents (Elt F) → (⟨S4096, .f32⟩ : BufTy).Contents (Elt F)),
   StableHlo.binary main_v3 main_v0 main_v4 (mulf : (⟨S4096, .f32⟩ : BufTy).Contents (Elt F) → (⟨S4096, .f32⟩ : BufTy).Contents (Elt F) → (⟨S4096, .f32⟩ : BufTy).Contents (Elt F)),
   StableHlo.nullary main_cst_1 (constant S_ .f32 0x3089705F#32),
   StableHlo.unary main_cst_1 main_v5 (broadcastInDim S4096 ![] bcast_S_S4096 : (⟨S_, .f32⟩ : BufTy).Contents (Elt F) → (⟨S4096, .f32⟩ : BufTy).Contents (Elt F)),
   StableHlo.binary main_v4 main_v5 main_v6 (maximumf : (⟨S4096, .f32⟩ : BufTy).Contents (Elt F) → (⟨S4096, .f32⟩ : BufTy).Contents (Elt F) → (⟨S4096, .f32⟩ : BufTy).Contents (Elt F)),
   StableHlo.unary main_v6 main_v7 (Host.log : (⟨S4096, .f32⟩ : BufTy).Contents (Elt F) → (⟨S4096, .f32⟩ : BufTy).Contents (Elt F)),
   StableHlo.nullary main_cst_2 (constant S_ .f32 0x3FB8AA3B#32),
   StableHlo.unary main_cst_2 main_v8 (broadcastInDim S4096 ![] bcast_S_S4096 : (⟨S_, .f32⟩ : BufTy).Contents (Elt F) → (⟨S4096, .f32⟩ : BufTy).Contents (Elt F)),
   StableHlo.binary main_v7 main_v8 main_v9 (mulf : (⟨S4096, .f32⟩ : BufTy).Contents (Elt F) → (⟨S4096, .f32⟩ : BufTy).Contents (Elt F) → (⟨S4096, .f32⟩ : BufTy).Contents (Elt F)),
   StableHlo.unary main_v9 main_v10 (Host.ceil : (⟨S4096, .f32⟩ : BufTy).Contents (Elt F) → (⟨S4096, .f32⟩ : BufTy).Contents (Elt F)),
   StableHlo.nullary main_cst_3 (constant S_ .f32 0x3F800000#32),
   StableHlo.TRef.unary (.of main_cst_3 : StableHlo.TRef sig ⟨S_, .f32⟩) main_call0.v0 id,
   StableHlo.TRef.unary main_call0.v0 main_call0.v1 (broadcastInDim S4096 ![] bcast_S_S4096),
   StableHlo.TRef.ternary (.of main_v2 : StableHlo.TRef sig ⟨S4096, .i1⟩) (.of main_v10 : StableHlo.TRef sig ⟨S4096, .f32⟩) main_call0.v1 main_call0.v2 select,
   StableHlo.unary main_v11 main_v12 (fptosi 32 : (⟨S4096, .f32⟩ : BufTy).Contents (Elt F) → (⟨S4096, .i32⟩ : BufTy).Contents (Elt F)),
   StableHlo.nullary main_c (constantI S_ 32 1#32),
   StableHlo.nullary main_c_4 (constantI S_ 32 32#32),
   StableHlo.TRef.unary (.of main_c : StableHlo.TRef sig ⟨S_, .i32⟩) main_call1.v0 id,
   StableHlo.TRef.unary main_call1.v0 main_call1.v1 (broadcastInDim S4096 ![] bcast_S_S4096),
   StableHlo.TRef.binary main_call1.v1 (.of main_v12 : StableHlo.TRef sig ⟨S4096, .i32⟩) main_call1.v2 maxsi,
   StableHlo.TRef.unary (.of main_c_4 : StableHlo.TRef sig ⟨S_, .i32⟩) main_call1.v3 id,
   StableHlo.TRef.unary main_call1.v3 main_call1.v4 (broadcastInDim S4096 ![] bcast_S_S4096),
   StableHlo.TRef.binary main_call1.v4 main_call1.v2 main_call1.v5 minsi,
   StableHlo.nullary main_c_5 (constantI S_ 32 0#32),
   StableHlo.TRef.unary (.of main_c_5 : StableHlo.TRef sig ⟨S_, .i32⟩) main_call2.v0 id,
   StableHlo.TRef.binary (.of main_v13 : StableHlo.TRef sig ⟨S4096, .i32⟩) main_call2.v0 main_call2.v1 (fun x v => pad S4112 ![0] ![16] ![0] x v pads_S4096_S4112_0160 h_S_),
   StableHlo.reshape main_arg3 main_v15 (rfl : (.i32 : EltTy) = .i32) shapeCasts_S4096_S4096x1,
   StableHlo.unary main_arg5 main_v16 ((transpose S32x32 [1, 0] · transposes_S32x32_S32x32_1_0) : (⟨S32x32, .f32⟩ : BufTy).Contents (Elt F) → (⟨S32x32, .f32⟩ : BufTy).Contents (Elt F)),
   StableHlo.unary main_arg6 main_v17 ((transpose S32x32 [1, 0] · transposes_S32x32_S32x32_1_0) : (⟨S32x32, .f32⟩ : BufTy).Contents (Elt F) → (⟨S32x32, .f32⟩ : BufTy).Contents (Elt F))]

abbrev ops1 : List (HloOp τ sig (Elt F)) :=
  [StableHlo.reshape main_v18_1 main_v19 (rfl : (.f32 : EltTy) = .f32) shapeCasts_S4096x5x32_S655360,
   StableHlo.reshape main_v18_0 main_v20 (rfl : (.f32 : EltTy) = .f32) shapeCasts_S4096x32x32_S4194304]

abbrev ops2 : List (HloOp τ sig (Elt F)) :=
  [StableHlo.reshape main_v21 main_v22 (rfl : (.f32 : EltTy) = .f32) shapeCasts_S655360_S4096x5x32]

theorem main_eq (d : Dev nD) : main (F := F) d = StableHlo.seq ops0 >>= fun _ =>
    (Prog.lift (.customCall (SparseCore.inner (Pipeline.entry 0)) ()) : Prog (TpuEff nD τ sig (Elt F) (SparseCore.Sig (Pipeline.Sig Λ₀ (Fin 1) fun p => (pcfgs (F := F) p).Adm) 1) .tc) PUnit) >>= fun _ =>
      StableHlo.seq ops1 >>= fun _ => sc.run d 0 >>= fun _ => StableHlo.seq ops2 := rfl

theorem bufs0 : ∀ op ∈ ops0 (F := F), op.bufs ⊆ ucRefs τ sig := by
  intro op hop
  simp only [ops0, List.mem_cons, List.not_mem_nil, _root_.or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> exact of_decide_eq_true rfl
theorem fresh0 : ∀ op ∈ ops0 (F := F), op.fresh = ∅ := by
  intro op hop
  simp only [ops0, List.mem_cons, List.not_mem_nil, _root_.or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> rfl
theorem bufs1 : ∀ op ∈ ops1 (F := F), op.bufs ⊆ ucRefs τ sig := by
  intro op hop
  simp only [ops1, List.mem_cons, List.not_mem_nil, _root_.or_false] at hop
  rcases hop with rfl | rfl <;> exact of_decide_eq_true rfl
theorem fresh1 : ∀ op ∈ ops1 (F := F), op.fresh = ∅ := by
  intro op hop
  simp only [ops1, List.mem_cons, List.not_mem_nil, _root_.or_false] at hop
  rcases hop with rfl | rfl <;> rfl
theorem bufs2 : ∀ op ∈ ops2 (F := F), op.bufs ⊆ ucRefs τ sig := by
  intro op hop
  simp only [ops2, List.mem_cons, List.not_mem_nil, _root_.or_false] at hop
  rcases hop with rfl; exact of_decide_eq_true rfl
theorem fresh2 : ∀ op ∈ ops2 (F := F), op.fresh = ∅ := by
  intro op hop
  simp only [ops2, List.mem_cons, List.not_mem_nil, _root_.or_false] at hop
  rcases hop with rfl; rfl

/-! ## The buffers, step by step -/

variable (m : (ℓ : Loc nD τ sig) → Buf (Elt F) ℓ) (ρ : Dev nD → PrngReg)

def W0 (d : Dev nD) : Valuation τ sig (Elt F) := fun b => m (d, b)
/-- At the TensorCore's kernel. -/
def W1 (d : Dev nD) : Valuation τ sig (Elt F) := after ops0 (W0 m d)
/-- After it. -/
def W2 (d : Dev nD) : Valuation τ sig (Elt F) := Vp (W1 m) d
/-- At the SparseCores' call. -/
def W3 (d : Dev nD) : Valuation τ sig (Elt F) := after ops1 (W2 m d)

abbrev aR : DevRef τ sig := Proc.devRef .tc (main_v19 : Ref sig .tc)
abbrev kR : DevRef τ sig := Proc.devRef .tc (main_v14 : Ref sig .tc)
abbrev iR : DevRef τ sig := Proc.devRef .tc (main_v20 : Ref sig .tc)
abbrev oR : DevRef τ sig := Proc.devRef .tc (main_v21 : Ref sig .tc)
abbrev vA (d : Dev nD) : Buf (Elt F) (aLoc d) := W3 m d aR
abbrev vD (d : Dev nD) : Buf (Elt F) (kLoc d) := W3 m d kR
abbrev vI (d : Dev nD) : Buf (Elt F) (iLoc d) := W3 m d iR
abbrev vO (d : Dev nD) : Buf (Elt F) (oLoc d) := W3 m d oR
/-- After the call. -/
def W4 (d : Dev nD) : Valuation τ sig (Elt F) := Function.update (W3 m d) oR (scOut (vA m d) (vD m d) (vI m d))
/-- At the end. -/
def W5 (d : Dev nD) : Valuation τ sig (Elt F) := after ops2 (W4 m d)

/-- The four arrays of the call. -/
abbrev S4 : Finset (DevRef τ sig) := {aR, kR, iR, oR}
theorem S4_sub : S4 ⊆ ucRefs τ sig := by decide

theorem held_S4 (d : Dev nD) (W : Valuation τ sig (Elt F)) :
    (held (SparseCore.T d) S4 W : sProp 𝕄)
      = iprop((aLoc d ↦{fullShare} W aR) ∗ (kLoc d ↦{fullShare} W kR) ∗ (iLoc d ↦{fullShare} W iR) ∗ oLoc d ↦{fullShare} W oR) := by
  unfold held S4
  rw [SparseCore.bigSep_insert' (by decide), SparseCore.bigSep_insert' (by decide), SparseCore.bigSep_insert' (by decide), bigSep_singleton]

theorem held_W3 (d : Dev nD) : (held (SparseCore.T d) (ucRefs τ sig) (W3 m d) : sProp 𝕄)
    = iprop(((aLoc d ↦{fullShare} vA m d) ∗ (kLoc d ↦{fullShare} vD m d) ∗ (iLoc d ↦{fullShare} vI m d) ∗ oLoc d ↦{fullShare} vO m d)
        ∗ held (SparseCore.T d) (ucRefs τ sig \ S4) (W3 m d)) := by
  rw [StableHlo.held_sub_split (SparseCore.T d) S4_sub, held_S4]
theorem held_W4 (d : Dev nD) : (held (SparseCore.T d) (ucRefs τ sig) (W4 m d) : sProp 𝕄)
    = iprop(((aLoc d ↦{fullShare} vA m d) ∗ (kLoc d ↦{fullShare} vD m d) ∗ (iLoc d ↦{fullShare} vI m d) ∗ oLoc d ↦{fullShare} scOut (vA m d) (vD m d) (vI m d))
        ∗ held (SparseCore.T d) (ucRefs τ sig \ S4) (W3 m d)) := by
  rw [StableHlo.held_sub_split (SparseCore.T d) S4_sub, held_S4,
    StableHlo.held_congr (SparseCore.T d) (V := W4 m d) (V' := W3 m d) (S := ucRefs τ sig \ S4) (fun b hb => by
      refine Function.update_of_ne (fun h => ?_) _ _
      rw [h] at hb
      exact (Finset.mem_sdiff.1 hb).2 (by decide))]
  rw [show W4 m d aR = vA m d from Function.update_of_ne (by decide) _ _, show W4 m d kR = vD m d from Function.update_of_ne (by decide) _ _,
    show W4 m d iR = vI m d from Function.update_of_ne (by decide) _ _, show W4 m d oR = _ from Function.update_self _ _ _]

/-! ## The TensorCore's kernel, called from @main -/

abbrev ghost (d : Dev nD) : sProp 𝕄 :=
  iprop(Pipeline.cellsGhost (Pipeline.pin (pcfgs (F := F)) adm) EP 0 d ∗ Pipeline.toksInit (Pipeline.pin (pcfgs (F := F)) adm) EP 0 d)

theorem phinj : Function.Injective (cellOf (nD := nD) (τ := τ) (Pipeline.pin (pcfgs (F := F)) adm)) := launch0.toP.cellOf_inj adm

/-- The call inside the pipeline's own signature. -/
theorem tcCall₀ [∀ e, Nonempty (Elt F e)] (V : Dev nD → Valuation τ sig (Elt F)) (d : Dev nD) (Φ : PUnit → sProp 𝕄) :
    iprop(levAts (K (F := F)).L (K (F := F)).lev ∗ boundary (SparseCore.T d) ∗ held (SparseCore.T d) (ucRefs τ sig) (V d) ∗ tcOwes d ∗ ghost d
        ∗ (iprop(boundary (SparseCore.T d) ∗ held (SparseCore.T d) (ucRefs τ sig) (Vp V d) ∗ tcOwes d) -∗ Φ ⟨⟩))
      ⊢ wp frame (wpE (D (F := F)) 𝒱 (SparseCore.T d) none) Set.univ
          (.op (.customCall (Pipeline.entry 0) ()) fun u => .ret u) Φ := by
  have h := Pipeline.RegionSeg.wp (pcfgs (F := F)) adm (pdats V) none phinj EP defs₀ 𝒱₀ (K (F := F)).L (K (F := F)).lev
    (reg V) d none (fun _ h => nomatch h) (fun u => .ret u) Φ
  rw [show (reg V).pre d = iprop(unscopedBufs d (fun b => V d (Proc.devRef .tc b)) ∗ tcOwes d) from rfl,
    show (reg V).post d = iprop(unscopedBufs d (fun b => Vp V d (Proc.devRef .tc b)) ∗ tcOwes d) from rfl] at h
  rw [← Pipeline.unscopedBufs_held, ← Pipeline.unscopedBufs_held]
  iintro ⟨Hlev, Hb, Hub, HO, ⟨Hg, Ht⟩, Hk⟩
  iapply h
  isplitl [Hk]
  · iintro ⟨Hb, Hub, HO⟩
    rw [wp_ret]; imodintro
    iapply Hk
    isplitl [Hb]; · iexact Hb
    isplitl [Hub] <;> iassumption
  isplitl [Hb]; · iexact Hb
  isplitl [Hub HO]; · isplitl [Hub] <;> iassumption
  isplitl [Hlev]; · iexact Hlev
  isplitl [Hg] <;> iassumption

theorem tcCall [∀ e, Nonempty (Elt F e)] (V : Dev nD → Valuation τ sig (Elt F)) (d : Dev nD) (Φ : PUnit → sProp 𝕄) :
    iprop(levAts (K (F := F)).L (K (F := F)).lev ∗ boundary (SparseCore.T d) ∗ held (SparseCore.T d) (ucRefs τ sig) (V d) ∗ tcOwes d ∗ ghost d
        ∗ (iprop(boundary (SparseCore.T d) ∗ held (SparseCore.T d) (ucRefs τ sig) (Vp V d) ∗ tcOwes d) -∗ Φ ⟨⟩))
      ⊢ wp frame (wpE ((K (F := F)).defs (D (F := F))) 𝒱 (SparseCore.T d) none) Set.univ
          (Prog.lift (.customCall (SparseCore.inner (Pipeline.entry 0)) ())) Φ := by
  exact (tcCall₀ V d Φ).trans ((K (F := F)).wp_liftProg (D (F := F)) 𝒱 (SparseCore.T d) Set.univ none
    (.op (.customCall (Pipeline.entry 0) ()) fun u => .ret u) Φ)

/-! ## @main on the TensorCore -/

set_option maxHeartbeats 1000000 in
theorem hmain [∀ e, Nonempty (Elt F e)] (κ : GSem nD τ sig → ℕ) (d : Dev nD) :
    iprop((K (F := F)).ctx EH (P (vA m) (vD m) (vI m) (vO m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ held (SparseCore.T d) (ucRefs τ sig) (W5 m d) ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (W0 m d)
    from Pipeline.unscopedBufs_held d (W0 m d), main_eq]
  iintro ⟨#Hctx, Hst, ⟨Hb, Hheld, Hts, -⟩, Hg⟩
  ihave Hlev := (SparseCore.Cfg.ctx_levAts κ) $$ Hctx
  iapply (wp_seq 𝒱 none Set.univ d (ucRefs τ sig) _ ops0 bufs0 fresh0 (W0 m d)) $$ [Hb Hheld]
  · isplitl [Hb] <;> iassumption
  iintro ⟨Hb, Hheld⟩
  unfold SparseCore.Cfg.tcSt
  icases Hst with ⟨HO, Hst⟩
  rw [wp_bind]
  iapply (tcCall (W1 m) d _)
  isplitl [Hlev]; · iexact Hlev
  isplitl [Hb]; · iexact Hb
  isplitl [Hheld]; · iexact Hheld
  isplitl [HO]; · iexact HO
  isplitl [Hg]; · iexact Hg
  iintro ⟨Hb, Hheld, HO⟩
  iapply (wp_seq 𝒱 none Set.univ d (ucRefs τ sig) _ ops1 bufs1 fresh1 (W2 m d)) $$ [Hb Hheld]
  · isplitl [Hb]; · iexact Hb
    iexact Hheld
  iintro ⟨Hb, Hheld⟩
  ihave Hh := (show (held (SparseCore.T d) (ucRefs τ sig) (after ops1 (W2 m d)) : sProp 𝕄) ⊢ _ from Entails.of_eq (held_W3 m d)) $$ Hheld
  icases Hh with ⟨H4, Hrest⟩
  rw [wp_bind]
  iapply ((K (F := F)).wp_run (D (F := F)) 𝒱 (EH := EH) (P := P (vA m) (vD m) (vI m) (vO m)) κ d 0) $$ [HO Hst H4 Hb Hrest Hts]
  isplitr; · iexact Hctx
  isplitl [HO Hst]
  · unfold SparseCore.Cfg.tcSt
    isplitl [HO]; · iexact HO
    iexact Hst
  isplitl [H4]
  · rw [st_eq]; iexact H4
  iintro ⟨Hst, Hdn⟩
  ihave H4 := (Entails.of_eq (dn_eq (vA m) (vD m) (vI m) (vO m) d)) $$ Hdn
  ihave Hheld := (Entails.of_eq (held_W4 m d).symm) $$ [H4 Hrest]
  · isplitl [H4] <;> iassumption
  rw [← bind_pure (StableHlo.seq ops2)]
  iapply (wp_seq 𝒱 none Set.univ d (ucRefs τ sig) _ ops2 bufs2 fresh2 (W4 m d)) $$ [Hb Hheld]
  · isplitl [Hb] <;> iassumption
  iintro ⟨Hb, Hheld⟩
  rw [wp_pure]; imodintro
  unfold SparseCore.Cfg.tcSt
  isplitl [Hst]; · iexact Hst
  isplitl [Hheld]; · iexact Hheld
  isplitl [Hb] <;> iassumption

/-! ## The launch element -/

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P (vA m) (vD m) (vI m) (vO m)).x q thr) := by
  unfold u₀
  iintro Hu
  ihave H := (ownU_pair _ _) $$ Hu
  icases H with ⟨HH, HP⟩
  ihave H := (own_pair_emb embR _ _) $$ HP
  icases H with ⟨HP, -⟩
  ihave HP' := (show BI.own ((Emb.inl.trans embR : Emb UP 𝕄) (initOf (Pipeline.cells (Pipeline.pin (pcfgs (F := F)) adm) phinj) (Pipeline.launchToks (Pipeline.pin (pcfgs (F := F)) adm) phinj)))
      ⊢ (BI.own (EP (initOf (Pipeline.cells (Pipeline.pin (pcfgs (F := F)) adm) phinj) (Pipeline.launchToks (Pipeline.pin (pcfgs (F := F)) adm) phinj))) : sProp 𝕄) from .rfl) $$ HP
  imod (Pipeline.fund_ghost (Pipeline.pin (pcfgs (F := F)) adm) EP phinj) $$ HP' with ⟨Hg, Ht⟩
  imodintro
  isplitl [HH]; · iexact HH
  isplitl [Hg Ht]
  · rw [show (bigSep Finset.univ fun d : Dev nD => ghost (F := F) d)
      = iprop((bigSep Finset.univ fun c : Dev nD => bigSep Finset.univ fun p => Pipeline.cellsGhost (Pipeline.pin (pcfgs (F := F)) adm) EP p c)
          ∗ (bigSep Finset.univ fun c : Dev nD => bigSep Finset.univ fun p => (Pipeline.toksInit (Pipeline.pin (pcfgs (F := F)) adm) EP p c : sProp 𝕄))) from by
        rw [← bigSep_sep']
        refine bigSep_congr fun c _ => ?_
        rw [show (Finset.univ : Finset (Fin 1)) = {0} from rfl, bigSep_singleton, bigSep_singleton]]
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The run -/

def fq (d : Dev nD) (s' : Phys nD τ sig (Elt F)) : Prop := ∀ b ∈ ucRefs τ sig, s'.mem.mem (d, b) = W5 m d b

theorem hfin (d : Dev nD) (s' : Phys nD τ sig (Elt F)) : iprop(held (SparseCore.T d) (ucRefs τ sig) (W5 m d) ∗ SI s') ⊢ (⌜fq m d s'⌝ : sProp 𝕄) := by
  unfold held
  iintro ⟨Hh, HSI⟩
  ihave Hr := (pointsTo_read_all (ucRefs τ sig) (fun b => (d, b)) (W5 m d) s') $$ [Hh HSI]
  · isplitl [Hh] <;> iassumption
  icases Hr with ⟨%h, -⟩
  ipureintro; exact h

/-- Every unscoped buffer of every device's TensorCore ends at `W5`, and every semaphore at zero. -/
def QC : PUnit × MemSt nD τ sig (Elt F) → Prop := fun r => (∀ c : Dev nD, ∀ b ∈ ucRefs τ sig, r.2.mem (c, b) = W5 m c b) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (vA m) (vD m) (vI m) (vO m)) (A := ∅) scFacts v₀
    (fun q hq => match q with | 0 => nomatch hq)
    (fun q _ => match q with | 0 => tileObl (vA m) (vD m) (vI m) (vO m) scFacts)
    (fun q _ => match q with | 0 => SparseCore.Cfg.VecSplit.of_plain (vecSplit (vA m) (vD m) (vI m) (vO m)))
    m ρ main (fun d => ghost d) (fun d => held (SparseCore.T d) (ucRefs τ sig) (W5 m d)) (u₀ (F := F)) (sep_elim_left.trans (hu₀ m)) (hmain m ρ) (fq m) (hfin m) (QC m) (fun _ h hz => ⟨h, hz⟩)

end Cert.Proof.Run
end
-- ==== Proof.Frames.lean ====
/-
  The arguments after the run: no operation, neither kernel, writes one. The frames of the program, read as words and read as
  extended reals, and the frame of the reference.
-/
module

public import proofs.«01_k».proof.Proof.Launch
public import proofs.«01_k».proof.Defs
public import proofs.«01_k».proof.Proof.Gen.Kernel
public import proofs.«01_k».proof.Proof.Gen.ReferenceIdeal.Run
public import proofs.«01_k».proof.Proof.Gen.Pre_category_counts_at_most_32
public import Idealize.ShloMosaic.Lib.Pipeline.RegionArraysS
public import Idealize.ShloMosaic.Lib.Quiescent

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Idealize.ShloMosaic.TcCoe
open Idealize.ShloMosaic.StableHlo (held wp_seq after)
open Idealize.ShloMosaic.Pipeline (ucRefs afterRegion cellOf)

section Args

variable [FloatOps F] (m : (ℓ : Loc nD τ sig) → Buf (Elt F) ℓ) (ρ : Dev nD → PrngReg)

/-! ## What each line of operations writes -/

abbrev dst0 : List (Ref sig .tc) := [main_v0, main_cst, main_v1, main_v2, main_cst_0, main_v3, main_v4, main_cst_1, main_v5, main_v6, main_v7, main_cst_2,
  main_v8, main_v9, main_v10, main_cst_3, main_call0_v0, main_call0_v1, main_v11, main_v12, main_c, main_c_4, main_call1_v0, main_call1_v1, main_call1_v2,
  main_call1_v3, main_call1_v4, main_v13, main_c_5, main_call2_v0, main_v14, main_v15, main_v16, main_v17]
theorem writes0 : (ops0 (F := F)).Forall fun op => op.writes ⊆ (dst0.map (Proc.devRef (τ := τ) .tc)).toFinset :=
  StableHlo.forall_writes_sub_of_map rfl
theorem writes1 : (ops1 (F := F)).Forall fun op => op.writes ⊆ ([main_v19, main_v20].map (Proc.devRef (τ := τ) .tc)).toFinset :=
  StableHlo.forall_writes_sub_of_map rfl
theorem writes2 : (ops2 (F := F)).Forall fun op => op.writes ⊆ ([main_v22].map (Proc.devRef (τ := τ) .tc)).toFinset :=
  StableHlo.forall_writes_sub_of_map rfl

theorem W1_keep (d : Dev nD) (r : Ref sig .tc) (h : r ∉ dst0) : W1 m d (Proc.devRef .tc r) = m (d, Proc.devRef .tc r) :=
  StableHlo.after_of_writes_sub ops0 _ writes0 h
theorem W2_keep (d : Dev nD) (r : Ref sig .tc) (h : ∀ w, Pipeline.arrRef spec0 w = r → (cfg0.win w).isOut = false) :
    W2 m d (Proc.devRef .tc r) = W1 m d (Proc.devRef .tc r) :=
  Pipeline.afterRegion_keeps (dat (W1 m) d) (W1 m d) launch0.win.arr_inj (fun _ => rfl) r h
theorem W3_keep (d : Dev nD) (r : Ref sig .tc) (h : r ∉ [main_v19, main_v20]) : W3 m d (Proc.devRef .tc r) = W2 m d (Proc.devRef .tc r) :=
  StableHlo.after_of_writes_sub ops1 _ writes1 h
theorem W4_keep (d : Dev nD) (r : Ref sig .tc) (h : r ≠ main_v21) : W4 m d (Proc.devRef .tc r) = W3 m d (Proc.devRef .tc r) :=
  Function.update_of_ne (fun e => h (Proc.devRef_injective _ e)) _ _
theorem W5_keep (d : Dev nD) (r : Ref sig .tc) (h : r ∉ [main_v22]) : W5 m d (Proc.devRef .tc r) = W4 m d (Proc.devRef .tc r) :=
  StableHlo.after_of_writes_sub ops2 _ writes2 h

/-- A reference that nothing writes ends at what it held. -/
theorem W5_arg (d : Dev nD) (r : Ref sig .tc) (h0 : r ∉ dst0) (h1 : ∀ w, Pipeline.arrRef spec0 w = r → (cfg0.win w).isOut = false)
    (h2 : r ∉ [main_v19, main_v20]) (h3 : r ≠ main_v21) (h4 : r ∉ [main_v22]) : W5 m d (Proc.devRef .tc r) = m (d, Proc.devRef .tc r) :=
  (W5_keep m d r h4).trans ((W4_keep m d r h3).trans ((W3_keep m d r h2).trans ((W2_keep m d r h1).trans (W1_keep m d r h0))))

theorem QC_at {r : PUnit × MemSt nD τ sig (Elt F)} (h : QC m r) (c : Dev nD) (b : Ref sig .tc) (hb : (Proc.devRef (τ := τ) .tc b).isScoped = false) :
    r.2.mem ((c.tc : Thread nD τ).loc b) = W5 m c (Proc.devRef .tc b) :=
  h.1 c _ (Pipeline.devRef_mem_ucRefs hb)

/-- The seven arguments end at what they held. -/
theorem QC_args {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine ⟨?_, ?_, ?_, ?_, ?_, ?_, ?_⟩ <;>
    exact (QC_at m h c _ rfl).trans (W5_arg m c _ (by decide) (by decide) (by decide) (by decide) (by decide))

end Args

/-! ## The frames -/

/-- The two readings print one text: the kernels' bodies agree label by label. -/
theorem bodies_eq : @Cert.Kernel.defs₀ Bits _ _ = @Cert.KernelIdeal.defs₀ Bits _ _ := by
  funext p ℓ a
  cases p <;> fin_cases ℓ <;> rfl

theorem defs_eq : @Cert.Kernel.defs Bits _ _ = @Cert.KernelIdeal.defs Bits _ _ :=
  congrArg (fun D₀ => (Cert.KernelIdeal.sc (F := Bits)).defs (Pipeline.defs (Cert.KernelIdeal.pcfgs (F := Bits)) D₀)) bodies_eq

set_option maxHeartbeats 2000000 in
theorem frame_words : Cert.quiescent_Kernel := by
  intro m ρ _
  rw [show @Cert.Kernel.defs Bits _ _ = @Cert.KernelIdeal.defs Bits _ _ from defs_eq]
  exact (θ_run (Cert.KernelIdeal.defs (F := Bits)) (Cert.KernelIdeal.threads (F := Bits)) ⟨m, fun _ => 0, ρ⟩).mono
    (fun _ h => ⟨QC_args (F := Bits) m h, h.2⟩) (run_main (F := Bits) m ρ)

theorem frame_ideal : Cert.quiescent_KernelIdeal := fun m ρ _ =>
  (θ_run (Cert.KernelIdeal.defs (F := Ideal)) _ _).mono (fun _ h => ⟨QC_args (F := Ideal) m h, h.2⟩) (run_main (F := Ideal) m ρ)

theorem frame_ref : Cert.quiescent_ReferenceIdeal := fun m ρ _ =>
  (θ_run (Cert.ReferenceIdeal.defs (F := Ideal)) _ _).mono (fun _ h => ⟨fun c => (h c).2, sem_eq_zero_of_no_sems (by decide) _⟩)
    (Cert.ReferenceIdeal.Value.run (F := Ideal) m ρ)

end Cert.Proof.Run
end
-- ==== Proof.Count.lean ====
/-
  How many interests a user's number of categories asks for, over the extended reals: the logarithm to base two of twice the number, rounded
  up and kept between one and thirty-two.  For at most thirty-two categories it is at most six.
-/
module

public import Idealize.ShloMosaic.PureOps.Ideal.Laws
public import Idealize.ShloMosaic.Lib.IdealHost
public import Idealize.ShloMosaic.Lib.Affine
public import Mathlib.Analysis.SpecialFunctions.Log.Basic

@[expose] public section

noncomputable section

namespace Cert.Proof.Count

open Idealize.ShloMosaic

/-- The count before it is turned to a whole number. -/
def level (n : BitVec 32) : EReal :=
  if (0 : EReal) < ((n.toInt : ℝ) : EReal) then
    Ideal.liftRound Int.ceil (Ideal.log (max (Ideal.ofBits .f32 0x40000000#32 * ((n.toInt : ℝ) : EReal)) (Ideal.ofBits .f32 0x3089705F#32))
      * Ideal.ofBits .f32 0x3FB8AA3B#32)
  else Ideal.ofBits .f32 0x3F800000#32

/-- The count. -/
def cnt (n : BitVec 32) : BitVec 32 := IntOp.minsi 32#32 (IntOp.maxsi 1#32 (Ideal.fptosi 32 (level n)))

/-! ## The constants -/

theorem two_eq : Ideal.ofBits .f32 0x40000000#32 = ((2 : ℝ) : EReal) := by
  simp [Ideal.ofBits, Ideal.ieee]
  norm_num
  rw [← EReal.coe_mul]
  norm_num
/-- The number standing for the reciprocal of the logarithm of two. -/
theorem recip_eq : Ideal.ofBits .f32 0x3FB8AA3B#32 = ((12102203 / 8388608 : ℝ) : EReal) := by
  simp [Ideal.ofBits, Ideal.ieee]
  norm_num
  rw [← EReal.coe_mul]
  norm_num
theorem tiny_eq : ∃ r : ℝ, Ideal.ofBits .f32 0x3089705F#32 = (r : EReal) ∧ r ≤ 1 := by
  refine ⟨9007199 / 2 ^ 53, ?_, by norm_num⟩
  simp [Ideal.ofBits, Ideal.ieee]
  norm_num
  rw [← EReal.coe_mul]
  norm_num

/-- The constant is not above the true reciprocal: the exponential's first terms at its inverse already pass two. -/
theorem log_two_le : Real.log 2 ≤ 8388608 / 12102203 := by
  rw [Real.log_le_iff_le_exp (by norm_num)]
  refine le_trans ?_ (Real.sum_le_exp_of_nonneg (by norm_num) 13)
  simp only [Finset.sum_range_succ, Finset.sum_range_zero, Nat.factorial]
  norm_num

theorem log_le (y : ℝ) (h0 : 0 < y) (h : y ≤ 64) : Real.log y * (12102203 / 8388608) ≤ 6 := by
  have h1 : Real.log y ≤ 6 * Real.log 2 := by
    have : Real.log 64 = 6 * Real.log 2 := by
      rw [show (64 : ℝ) = 2 ^ 6 by norm_num, Real.log_pow]; norm_num
    rw [← this]
    exact Real.log_le_log h0 h
  have h2 := log_two_le
  nlinarith

theorem level_le (n : BitVec 32) (h : n.toInt ≤ 32) : level n ≤ ((6 : ℝ) : EReal) := by
  unfold level
  split_ifs with h0
  · obtain ⟨r, hr, hr1⟩ := tiny_eq
    have hc : (0 : ℝ) < (n.toInt : ℝ) := by exact_mod_cast h0
    have hc1 : (1 : ℝ) ≤ (n.toInt : ℝ) := by
      have : 0 < n.toInt := by exact_mod_cast hc
      exact_mod_cast this
    have hc32 : (n.toInt : ℝ) ≤ 32 := by exact_mod_cast h
    rw [hr, two_eq, recip_eq, ← EReal.coe_mul, max_eq_left (by exact_mod_cast (by linarith : r ≤ 2 * (n.toInt : ℝ))), Ideal.log_coe,
      if_neg (by linarith), ← EReal.coe_mul, Ideal.liftRound_coe]
    have := log_le (2 * (n.toInt : ℝ)) (by linarith) (by linarith)
    have h6 : ⌈Real.log (2 * (n.toInt : ℝ)) * (12102203 / 8388608)⌉ ≤ 6 := Int.ceil_le.2 (by exact_mod_cast this)
    exact_mod_cast h6
  · rw [Ideal.ofBits_one_f32]
    exact_mod_cast (by norm_num : (1 : ℝ) ≤ 6)

theorem fptosi_le (x : EReal) (h : x ≤ ((6 : ℝ) : EReal)) : (Ideal.fptosi 32 x).toInt ≤ 6 := by
  unfold Ideal.fptosi
  have h6 : Ideal.toIntClamped (-(2 ^ (32 - 1) : Nat)) ((2 ^ (32 - 1) : Nat) - 1) x ≤ 6 ∧ -2147483648 ≤ Ideal.toIntClamped (-(2 ^ (32 - 1) : Nat)) ((2 ^ (32 - 1) : Nat) - 1) x := by
    induction x with
    | bot => simp
    | top => exact absurd h (by simp)
    | coe r =>
      have hr : r ≤ 6 := by exact_mod_cast h
      rw [Ideal.toIntClamped_coe]
      have : (if 0 ≤ r then ⌊r⌋ else ⌈r⌉) ≤ 6 := by
        split_ifs with h0
        · exact_mod_cast (Int.floor_le r).trans hr
        · exact Int.ceil_le.2 (by exact_mod_cast hr)
      constructor
      · refine max_le (by norm_num) ((min_le_right _ _).trans this)
      · exact le_max_left _ _
  generalize Ideal.toIntClamped _ _ x = z at h6
  rw [BitVec.toInt_ofInt, Int.bmod_eq_of_le] <;> omega

theorem cnt_le (n : BitVec 32) (h : n.toInt ≤ 32) : (cnt n).toInt ≤ 6 := by
  have h6 := fptosi_le _ (level_le n h)
  unfold cnt
  generalize Ideal.fptosi 32 (level n) = z at h6
  have hm : (IntOp.maxsi 1#32 z).toInt ≤ 6 := by
    unfold IntOp.maxsi
    split_ifs
    · decide
    · exact h6
  generalize IntOp.maxsi 1#32 z = w at hm
  unfold IntOp.minsi
  split_ifs with hs
  · have := BitVec.slt_iff_toInt_lt.1 hs
    omega
  · exact hm

end Cert.Proof.Count
end
-- ==== Proof.Order.lean ====
/-
  Ranks. A strict total order on the numbers below `N` gives each number its rank, the ranks are the numbers below `N` once each, and a sort
  puts at place `k` the number of rank `k`. The first eight of two halves taken together hold the first eight of the whole. Nothing here is
  about a program.
-/
module

public import Idealize.ShloMosaic.Lib.SortFacts
public import Mathlib.Data.Fintype.Card
public import Mathlib.Algebra.BigOperators.Fin

@[expose] public section

noncomputable section

namespace Cert.Proof.Rank

open Idealize.ShloMosaic

/-- A strict total order on the numbers below `N`. -/
structure Total {N : ℕ} (R : Fin N → Fin N → Prop) : Prop where
  irrefl : ∀ i, ¬ R i i
  trans : ∀ i j k, R i j → R j k → R i k
  tri : ∀ i j, i ≠ j → R i j ∨ R j i

section total
variable {N : ℕ} {R : Fin N → Fin N → Prop}

open Classical in
/-- How many are before `j`. -/
def rank (R : Fin N → Fin N → Prop) (j : Fin N) : ℕ := (Finset.univ.filter fun i => R i j).card

theorem Total.rank_lt_of (h : Total R) {i j : Fin N} (hij : R i j) : rank R i < rank R j := by
  classical
  unfold rank
  refine Finset.card_lt_card ⟨fun a ha => ?_, fun hs => ?_⟩
  · simp only [Finset.mem_filter, Finset.mem_univ, true_and] at ha ⊢
    exact h.trans _ _ _ ha hij
  · have := hs (show i ∈ _ by simpa using hij)
    simp only [Finset.mem_filter, Finset.mem_univ, true_and] at this
    exact h.irrefl _ this

theorem Total.rank_lt_iff (h : Total R) (i j : Fin N) : rank R i < rank R j ↔ R i j := by
  refine ⟨fun hr => ?_, h.rank_lt_of⟩
  by_contra hn
  by_cases e : i = j
  · subst e; exact lt_irrefl _ hr
  · have := h.rank_lt_of ((h.tri i j e).resolve_left hn)
    omega

theorem Total.rank_lt (h : Total R) (j : Fin N) : rank R j < N := by
  classical
  unfold rank
  have : (Finset.univ.filter fun i => R i j) ⊂ (Finset.univ : Finset (Fin N)) := by
    rw [Finset.filter_ssubset]
    exact ⟨j, Finset.mem_univ _, h.irrefl j⟩
  simpa using Finset.card_lt_card this

theorem Total.rank_inj (h : Total R) {i j : Fin N} (e : rank R i = rank R j) : i = j := by
  by_contra hn
  rcases h.tri i j hn with h' | h' <;> have := h.rank_lt_of h' <;> omega

/-- The number of each rank. -/
def Total.nth (h : Total R) : Fin N ≃ Fin N :=
  (Equiv.ofBijective (fun j => (⟨rank R j, h.rank_lt j⟩ : Fin N))
    (Finite.injective_iff_bijective.mp fun i j e => h.rank_inj (congrArg Fin.val e))).symm

theorem Total.rank_nth (h : Total R) (r : Fin N) : rank R (h.nth r) = r.val :=
  congrArg Fin.val ((Equiv.ofBijective (fun j => (⟨rank R j, h.rank_lt j⟩ : Fin N))
    (Finite.injective_iff_bijective.mp fun i j e => h.rank_inj (congrArg Fin.val e))).apply_symm_apply r)

theorem Total.nth_eq (h : Total R) (r : Fin N) (j : Fin N) (e : rank R j = r.val) : h.nth r = j :=
  h.rank_inj ((h.rank_nth r).trans e.symm)

theorem Total.nth_rel (h : Total R) (r s : Fin N) : R (h.nth r) (h.nth s) ↔ r < s := by
  rw [← h.rank_lt_iff, h.rank_nth, h.rank_nth]; rfl

/-- A stable sort by a strict total order puts at place `k` the number of rank `k`. -/
theorem Total.rank_sortedFrom (h : Total R) (B : Fin N → Fin N → Bool) (hB : ∀ i j, B i j = true ↔ R i j) (k : Fin N) :
    rank R (sortedFrom B k) = k.val := by
  classical
  have hf : ∀ i j, B i j = false ↔ ¬ R i j := fun i j => by rw [← hB, Bool.not_eq_true]
  have hmono : ∀ i j : Fin N, i < j → R (sortedFrom B i) (sortedFrom B j) := by
    intro i j hij
    have hn : B (sortedFrom B j) (sortedFrom B i) = false := by
      refine sortedFrom_noInversion B B (fun a b hab => ?_) (fun _ _ hab => hab) (fun a b c hab hbc => ?_) i j hij
      · rw [hf]; rw [hB] at hab
        exact fun hba => h.irrefl _ (h.trans _ _ _ hab hba)
      · rw [hf] at hab hbc ⊢
        intro hac
        by_cases e : a = b
        · subst e; exact hbc hac
        · exact hbc (h.trans _ _ _ ((h.tri a b e).resolve_left hab) hac)
    rw [hf] at hn
    have hne : sortedFrom B i ≠ sortedFrom B j := fun e => (ne_of_lt hij) (sortedFrom_injective B e)
    exact (h.tri _ _ hne).resolve_right hn
  let σ : Fin N ≃ Fin N := Equiv.ofBijective (sortedFrom B) ⟨sortedFrom_injective B, sortedFrom_surjective B⟩
  have e : (Finset.univ.filter fun i => R i (sortedFrom B k)) = (Finset.univ.filter fun i : Fin N => i < k).map σ.toEmbedding := by
    ext i
    simp only [Finset.mem_filter, Finset.mem_univ, true_and, Finset.mem_map]
    constructor
    · intro hi
      obtain ⟨m, rfl⟩ := sortedFrom_surjective B i
      refine ⟨m, ?_, rfl⟩
      by_contra hm
      rcases eq_or_lt_of_le (not_lt.mp hm) with rfl | hlt
      · exact h.irrefl _ hi
      · exact h.irrefl _ (h.trans _ _ _ hi (hmono _ _ hlt))
    · rintro ⟨m, hm, rfl⟩
      exact hmono _ _ hm
  unfold rank
  rw [e, Finset.card_map, show (Finset.univ.filter fun i : Fin N => i < k) = Finset.Iio k by ext; simp, Fin.card_Iio]

/-- Sorting the places of a sort gives the ranks. -/
theorem Total.sortedFrom_sortedFrom (h : Total R) (B B' : Fin N → Fin N → Bool) (hB : ∀ i j, B i j = true ↔ R i j)
    (hB' : ∀ i j, B' i j = true ↔ sortedFrom B i < sortedFrom B j) (k : Fin N) : (sortedFrom B' k).val = rank R k := by
  classical
  have h' : Total fun i j => sortedFrom B i < sortedFrom B j :=
    ⟨fun i => lt_irrefl _, fun _ _ _ => lt_trans, fun i j hij => lt_or_gt_of_ne fun e => hij (sortedFrom_injective B e)⟩
  have e1 := h'.rank_sortedFrom B' hB' k
  have e2 : ∀ j, rank (fun i j => sortedFrom B i < sortedFrom B j) j = (sortedFrom B j).val := by
    intro j
    let σ : Fin N ≃ Fin N := Equiv.ofBijective (sortedFrom B) ⟨sortedFrom_injective B, sortedFrom_surjective B⟩
    have : (Finset.univ.filter fun i => sortedFrom B i < sortedFrom B j) = (Finset.Iio (sortedFrom B j)).map σ.symm.toEmbedding := by
      ext i
      simp only [Finset.mem_filter, Finset.mem_univ, true_and, Finset.mem_map, Finset.mem_Iio]
      constructor
      · intro hi; exact ⟨σ i, hi, σ.symm_apply_apply i⟩
      · rintro ⟨m, hm, rfl⟩
        exact lt_of_eq_of_lt (σ.apply_symm_apply m) hm
    unfold rank
    refine Eq.trans ?_ ((congrArg Finset.card this).trans ((Finset.card_map _).trans (Fin.card_Iio _)))
    congr 1
    ext i
    simp only [Finset.mem_filter]
  rw [e2] at e1
  have e3 := h.rank_sortedFrom B hB (sortedFrom B' k)
  rw [show sortedFrom B (sortedFrom B' k) = k from Fin.ext e1] at e3
  exact e3.symm

end total

/-! ## Larger first, an equal one of a smaller number first -/

section before
variable {N : ℕ} {α : Type} [LinearOrder α]

/-- `i` is before `j`: a larger value, or the same value at a smaller number. -/
def before (x : Fin N → α) (i j : Fin N) : Prop := x j < x i ∨ (x i = x j ∧ i < j)

theorem total (x : Fin N → α) : Total (before x) where
  irrefl i h := h.elim (lt_irrefl _) fun h => lt_irrefl _ h.2
  trans i j k := by
    rintro (h1 | ⟨e1, h1⟩) (h2 | ⟨e2, h2⟩)
    · exact .inl (h2.trans h1)
    · exact .inl (e2 ▸ h1)
    · exact .inl (e1 ▸ h2)
    · exact .inr ⟨e1.trans e2, h1.trans h2⟩
  tri i j hij := by
    rcases lt_trichotomy (x i) (x j) with h | h | h
    · exact .inr (.inl h)
    · rcases lt_or_gt_of_ne hij with h' | h'
      · exact .inl (.inr ⟨h, h'⟩)
      · exact .inr (.inr ⟨h.symm, h'⟩)
    · exact .inl (.inl h)

/-- A map that keeps the order and meets everything before an element's image keeps the element's rank. -/
theorem rank_of_map {M : ℕ} (x : Fin N → α) (y : Fin M → α) (μ : Fin M → Fin N) (hinj : Function.Injective μ)
    (hμ : ∀ s t, before y s t ↔ before x (μ s) (μ t)) (t : Fin M) (hon : ∀ i, before x i (μ t) → ∃ s, μ s = i) :
    rank (before y) t = rank (before x) (μ t) := by
  classical
  unfold rank
  rw [← Finset.card_map ⟨μ, hinj⟩]
  congr 1
  ext i
  simp only [Finset.mem_filter, Finset.mem_univ, true_and, Finset.mem_map, Function.Embedding.coeFn_mk]
  constructor
  · rintro ⟨s, hs, rfl⟩; exact (hμ _ _).1 hs
  · intro hi
    obtain ⟨s, rfl⟩ := hon i hi
    exact ⟨s, (hμ _ _).2 hi, rfl⟩

/-- Such a map at most raises ranks. -/
theorem rank_le_of_map {M : ℕ} (x : Fin N → α) (y : Fin M → α) (μ : Fin M → Fin N) (hinj : Function.Injective μ)
    (hμ : ∀ s t, before y s t ↔ before x (μ s) (μ t)) (t : Fin M) : rank (before y) t ≤ rank (before x) (μ t) := by
  classical
  unfold rank
  rw [← Finset.card_map ⟨μ, hinj⟩]
  refine Finset.card_le_card fun i => ?_
  simp only [Finset.mem_filter, Finset.mem_univ, true_and, Finset.mem_map, Function.Embedding.coeFn_mk]
  rintro ⟨s, hs, rfl⟩; exact (hμ _ _).1 hs

end before

/-! ## Two halves of sixteen -/

section halves
variable {α : Type} [LinearOrder α]

/-- The numbers of the two halves among the 32. -/
def lo (t : Fin 16) : Fin 32 := ⟨t.val, by omega⟩
def hi (t : Fin 16) : Fin 32 := ⟨16 + t.val, by omega⟩

theorem lo_inj : Function.Injective lo := fun a b e => Fin.ext (by have := congrArg Fin.val e; exact this)
theorem hi_inj : Function.Injective hi := fun a b e => Fin.ext (by have := congrArg Fin.val e; simp only [hi] at this; omega)

theorem before_lo (x : Fin 32 → α) (s t : Fin 16) : before (fun t => x (lo t)) s t ↔ before x (lo s) (lo t) := Iff.rfl
theorem before_hi (x : Fin 32 → α) (s t : Fin 16) : before (fun t => x (hi t)) s t ↔ before x (hi s) (hi t) := by
  unfold before
  have : s < t ↔ hi s < hi t := by simp only [Fin.lt_def, hi]; omega
  rw [this]

/-- The number in lane `t` of the joined lanes: the first eight of the lower half, then the first eight of the upper. -/
def joined (x : Fin 32 → α) (t : Fin 16) : Fin 32 :=
  if t.val < 8 then lo ((total fun t => x (lo t)).nth t) else hi ((total fun t => x (hi t)).nth ⟨t.val - 8, by omega⟩)

theorem before_joined (x : Fin 32 → α) (s t : Fin 16) : before (fun t => x (joined x t)) s t ↔ before x (joined x s) (joined x t) := by
  unfold before
  refine or_congr Iff.rfl (and_congr_right fun e => ?_)
  replace e : x (joined x s) = x (joined x t) := e
  unfold joined at e ⊢
  by_cases hs : s.val < 8 <;> by_cases ht : t.val < 8
  · rw [if_pos hs, if_pos ht] at e ⊢
    have h1 := (total fun t => x (lo t)).nth_rel s t
    rw [← h1]
    constructor
    · rintro (h | h)
      · exact absurd e (ne_of_gt h)
      · exact h.2
    · exact fun h => .inr ⟨e, h⟩
  · rw [if_pos hs, if_neg ht]
    simp only [Fin.lt_def, lo, hi]
    omega
  · rw [if_neg hs, if_pos ht]
    simp only [Fin.lt_def, lo, hi]
    omega
  · rw [if_neg hs, if_neg ht] at e ⊢
    have h1 := (total fun t => x (hi t)).nth_rel ⟨s.val - 8, by omega⟩ ⟨t.val - 8, by omega⟩
    have h2 : s < t ↔ (⟨s.val - 8, by omega⟩ : Fin 16) < ⟨t.val - 8, by omega⟩ := by simp only [Fin.lt_def]; omega
    rw [h2, ← h1]
    constructor
    · rintro (h | h)
      · exact absurd e (ne_of_gt h)
      · have := h.2; simp only [Fin.lt_def, hi] at this ⊢; omega
    · intro h
      refine .inr ⟨e, ?_⟩
      simp only [Fin.lt_def, hi] at h ⊢; omega

theorem joined_inj (x : Fin 32 → α) : Function.Injective (joined x) := by
  intro s t e
  by_contra hn
  have h1 := before_joined x s t
  have h2 := before_joined x t s
  rw [e] at h1 h2
  rcases (total fun t => x (joined x t)).tri s t hn with h | h
  · exact (total x).irrefl _ (h1.1 h)
  · exact (total x).irrefl _ (h2.1 h)

/-- Every one of the first eight is among the joined lanes. -/
theorem joined_of_rank (x : Fin 32 → α) (i : Fin 32) (h : rank (before x) i < 8) : ∃ t, joined x t = i := by
  by_cases hl : i.val < 16
  · have hi' : lo ⟨i.val, hl⟩ = i := rfl
    have hr := rank_le_of_map x (fun t => x (lo t)) lo lo_inj (before_lo x) ⟨i.val, hl⟩
    rw [hi'] at hr
    refine ⟨⟨rank (before fun t => x (lo t)) ⟨i.val, hl⟩, by omega⟩, ?_⟩
    unfold joined
    rw [if_pos (by show rank _ _ < 8; omega), (total fun t => x (lo t)).nth_eq _ ⟨i.val, hl⟩ rfl]
    exact hi'
  · have hl2 : i.val - 16 < 16 := by omega
    have hi' : hi ⟨i.val - 16, hl2⟩ = i := Fin.ext (by show 16 + (i.val - 16) = i.val; omega)
    have hr := rank_le_of_map x (fun t => x (hi t)) hi hi_inj (before_hi x) ⟨i.val - 16, hl2⟩
    rw [hi'] at hr
    refine ⟨⟨8 + rank (before fun t => x (hi t)) ⟨i.val - 16, hl2⟩, by omega⟩, ?_⟩
    unfold joined
    rw [if_neg (by show ¬ (8 + rank _ _ < 8); omega), (total fun t => x (hi t)).nth_eq _ ⟨i.val - 16, hl2⟩ (by show rank _ _ = 8 + rank _ _ - 8; omega)]
    exact hi'

/-- … and in its own place once the joined lanes are ordered. -/
theorem joined_nth (x : Fin 32 → α) (r : Fin 16) (h : r.val < 8) :
    joined x ((total fun t => x (joined x t)).nth r) = (total x).nth ⟨r.val, by omega⟩ := by
  obtain ⟨t, ht⟩ := joined_of_rank x ((total x).nth ⟨r.val, by omega⟩) (by rw [(total x).rank_nth]; exact h)
  have hr : rank (before fun t => x (joined x t)) t = r.val := by
    refine (rank_of_map x (fun t => x (joined x t)) (joined x) (joined_inj x) (before_joined x) t fun i hi => ?_).trans ?_
    · refine joined_of_rank x i ?_
      have := (total x).rank_lt_of hi
      rw [ht, (total x).rank_nth] at this
      have h8 : (⟨r.val, by omega⟩ : Fin 32).val = r.val := rfl
      omega
    · rw [ht, (total x).rank_nth]
  rw [(total fun t => x (joined x t)).nth_eq r t hr, ht]

end halves

end Cert.Proof.Rank

end
-- ==== Proof.Select.lean ====
/-
  What the lanes of a task's buffers hold when the floats are extended reals: the six best interests of a candidate in order, and so the sum a task
  computes is the sum over all 32 interests of those whose rank is below the count.
-/
module

public import proofs.«01_k».proof.Proof.Lanes
public import proofs.«01_k».proof.Proof.Order
public import Idealize.ShloMosaic.PureOps.Ideal.Laws

@[expose] public section

noncomputable section

namespace Cert.Proof.Run

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Cert.Proof.Rank

/-! ## A scatter by ranks -/

theorem sct_at {α : Type} (f : S16.Idx → α) (p : IVec S16 32) (v : S16.Idx → α) (x : S16.Idx) (t : Fin 16) (ht : (x 0).val = (p (ixN 16 t.val)).toNat)
    (hu : ∀ k : Fin 16, (x 0).val = (p (ixN 16 k.val)).toNat → k = t) : sct f p v x = v (ixN 16 t.val) := by
  unfold sct
  suffices H : ∀ (l : List (Fin 16)) (g : S16.Idx → α), (g x = v (ixN 16 t.val) ∨ t ∈ l) →
      l.foldl (fun g k => fun j => if (j 0).val = (p (ixN 16 k.val)).toNat then v (ixN 16 k.val) else g j) g x = v (ixN 16 t.val) from
    H _ f (.inr (List.mem_finRange t))
  intro l
  induction l with
  | nil => exact fun g hg => hg.resolve_right (List.not_mem_nil)
  | cons k l ih =>
    intro g hg
    refine ih _ ?_
    by_cases hk : k = t
    · subst hk; exact .inl (if_pos ht)
    · rcases hg with hg | hg
      · exact .inl ((if_neg fun e => hk (hu k e)).trans hg)
      · exact .inr ((List.mem_cons.mp hg).resolve_left fun e => hk e.symm)

theorem cmp_ogt (a b : EReal) : FloatOps.cmpf (F := Ideal) (φ := .f32) .ogt a b = 1#1 ↔ b < a := by
  rw [Ideal.cmpf_def]
  show BitVec.ofBool (decide (b < a)) = 1#1 ↔ _
  rw [ofBool_one, decide_eq_true_iff]

theorem cmp_oeq (a b : EReal) : FloatOps.cmpf (F := Ideal) (φ := .f32) .oeq a b = 1#1 ↔ a = b := by
  rw [Ideal.cmpf_def]
  show BitVec.ofBool (decide (a = b)) = 1#1 ↔ _
  rw [ofBool_one, decide_eq_true_iff]

/-- The lanes of a vector by number. -/
def lanes {α : Type} (k : S16.Idx → α) (t : Fin 16) : α := k (ixN 16 t.val)

theorem ixN16 (t : Fin 16) : (ixN 16 t.val 0).val = t.val := by rw [ixN_zero_val]; omega

theorem bef_iff (k : FVec Ideal S16 .f32) (i t : Fin 16) : bef k i (ixN 16 t.val) ↔ before (α := EReal) (lanes k) i t := by
  unfold bef before
  rw [cmp_ogt, cmp_oeq, ixN16]
  refine or_congr ⟨fun h => h.1, fun h => ⟨h, fun e => ?_⟩⟩ Iff.rfl
  have : i = t := Fin.ext e
  subst this
  exact lt_irrefl _ h

theorem rk_eq (k : FVec Ideal S16 .f32) (t : Fin 16) : rk k 16 (ixN 16 t.val) = rank (before (α := EReal) (lanes k)) t := by
  classical
  unfold rk rank
  congr 1
  ext i
  simp only [Finset.mem_filter, Finset.mem_univ, true_and, bef_iff, i.isLt]

theorem srt_eq {α : Type} (k : FVec Ideal S16 .f32) (v : S16.Idx → α) (r : Fin 16) :
    srt k v (ixN 16 r.val) = lanes v ((total (α := EReal) (lanes k)).nth r) := by
  refine sct_at v (rankV k 16) v (ixN 16 r.val) ((total (α := EReal) (lanes k)).nth r) ?_ fun t ht => ?_
  · rw [rankV_toNat, rk_eq, ixN16, (total (α := EReal) (lanes k)).rank_nth]
  · rw [rankV_toNat, rk_eq, ixN16] at ht
    exact ((total (α := EReal) (lanes k)).nth_eq r t ht.symm).symm

/-! ## The joined lanes -/

section top
variable (k0 k1 : FVec Ideal S16 .f32) (x : Fin 32 → EReal)

theorem ofNat_slt (a b : ℕ) (ha : a < 32) (hb : b < 32) : IntOp.cmpi .slt (BitVec.ofNat 32 a) (BitVec.ofNat 32 b) = 1#1 ↔ a < b := by
  show BitVec.ofBool ((BitVec.ofNat 32 a).slt (BitVec.ofNat 32 b)) = 1#1 ↔ _
  rw [ofBool_one, BitVec.slt_iff_toInt_lt, BitVec.toInt_ofNat', BitVec.toInt_ofNat']
  have e1 : ((a : ℤ)).bmod (2 ^ 32) = a := by rw [Int.bmod_eq_of_le] <;> omega
  have e2 : ((b : ℤ)).bmod (2 ^ 32) = b := by rw [Int.bmod_eq_of_le] <;> omega
  rw [e1, e2]; omega

theorem pay1_iff (t : Fin 16) : k1_pay1 (ixN 16 t.val) = 1#1 ↔ t.val < 8 := by
  show IntOp.cmpi .slt (io (ixN 16 t.val)) (BitVec.ofNat 32 8) = 1#1 ↔ _
  rw [io_apply, ixN16]
  exact ofNat_slt _ _ (by omega) (by omega)

theorem pay2_of_ge (t : Fin 16) (h : ¬ t.val < 8) : (k1_pay2 (ixN 16 t.val)).toNat = t.val - 8 := by
  show (if k1_pay1 (ixN 16 t.val) = 1#1 then io (ixN 16 t.val) else io (ixN 16 t.val) - 8#32).toNat = _
  rw [if_neg fun e => h ((pay1_iff t).1 e), io_apply, ixN16]
  have := t.isLt
  revert t
  decide

theorem lanes_lo {k0 : FVec Ideal S16 .f32} {x : Fin 32 → EReal} (h0 : ∀ t : Fin 16, lanes k0 t = x (lo t)) : lanes k0 = fun t => x (lo t) := funext h0
theorem lanes_hi {k1 : FVec Ideal S16 .f32} {x : Fin 32 → EReal} (h1 : ∀ t : Fin 16, lanes k1 t = x (hi t)) : lanes k1 = fun t => x (hi t) := funext h1

variable (h0 : lanes k0 = fun t => x (lo t)) (h1 : lanes k1 = fun t => x (hi t))
include h0 h1

theorem midK_eq (t : Fin 16) : lanes (midK k0 k1) t = x (joined x t) := by
  show (if k1_pay1 (ixN 16 t.val) = 1#1 then srt k0 k0 (ixN 16 t.val) else srt k1 k1 (ixN 16 (k1_pay2 (ixN 16 t.val)).toNat)) = _
  unfold joined
  by_cases h : t.val < 8
  · rw [if_pos ((pay1_iff t).2 h), if_pos h, srt_eq]
    simp only [h0]
  · rw [if_neg fun e => h ((pay1_iff t).1 e), if_neg h, pay2_of_ge t h,
      show ixN 16 (t.val - 8) = ixN 16 (⟨t.val - 8, by omega⟩ : Fin 16).val from rfl, srt_eq]
    simp only [h1]

theorem midV_eq (t : Fin 16) : (midV k0 k1 (ixN 16 t.val)).toNat = (joined x t).val := by
  show (if k1_pay1 (ixN 16 t.val) = 1#1 then srt k0 io (ixN 16 t.val) else srt k1 (k1_pay9 io) (ixN 16 (k1_pay2 (ixN 16 t.val)).toNat)).toNat = _
  unfold joined
  by_cases h : t.val < 8
  · rw [if_pos ((pay1_iff t).2 h), if_pos h, srt_eq]
    simp only [h0]
    unfold lanes
    rw [io_apply, ixN16, BitVec.toNat_ofNat, Nat.mod_eq_of_lt (by omega)]
    rfl
  · rw [if_neg fun e => h ((pay1_iff t).1 e), if_neg h, pay2_of_ge t h,
      show ixN 16 (t.val - 8) = ixN 16 (⟨t.val - 8, by omega⟩ : Fin 16).val from rfl, srt_eq]
    simp only [h1]
    show (io (ixN 16 _) + 16#32).toNat = _
    rw [io_apply, ixN16, BitVec.toNat_add, BitVec.toNat_ofNat]
    show (_ % 2 ^ 32 + 16) % 2 ^ 32 = 16 + _
    omega

theorem topV_eq (r : Fin 16) (h : r.val < 8) : (topV k0 k1 (ixN 16 r.val)).toNat = ((total x).nth ⟨r.val, by omega⟩).val := by
  unfold topV
  rw [srt_eq]
  unfold lanes
  rw [midV_eq k0 k1 x h0 h1, ← joined_nth x r h]
  exact congrArg (fun i => (joined x i).val) (congrArg (fun y => (total y).nth r) (funext (midK_eq k0 k1 x h0 h1)))

theorem topK_eq (dk : BitVec 32) (r : Fin 16) (h : r.val < 8) :
    topK k0 k1 (fun _ => dk) (ixN 16 r.val) = if (r.val : ℤ) < dk.toInt then x ((total x).nth ⟨r.val, by omega⟩) else 0 := by
  have hs : srt (midK k0 k1) (midK k0 k1) (ixN 16 r.val) = x ((total x).nth ⟨r.val, by omega⟩) := by
    rw [srt_eq, midK_eq k0 k1 x h0 h1, ← joined_nth x r h]
    exact congrArg (fun i => x (joined x i)) (congrArg (fun y => (total y).nth r) (funext (midK_eq k0 k1 x h0 h1)))
  have hc : IntOp.cmpi .slt (io (ixN 16 r.val)) dk = 1#1 ↔ (r.val : ℤ) < dk.toInt := by
    rw [io_apply, ixN16]
    show BitVec.ofBool ((BitVec.ofNat 32 r.val).slt dk) = 1#1 ↔ _
    rw [ofBool_one, BitVec.slt_iff_toInt_lt, BitVec.toInt_ofNat']
    have e1 : ((r.val : ℤ)).bmod (2 ^ 32) = r.val := by rw [Int.bmod_eq_of_le] <;> omega
    rw [e1]
  show (if IntOp.cmpi .slt (io (ixN 16 r.val)) dk = 1#1 then srt (midK k0 k1) (midK k0 k1) (ixN 16 r.val) else Ideal.ofBits .f32 0x00000000#32) = _
  rw [hs, Ideal.ofBits_zero_f32]
  exact if_congr hc rfl rfl

/-- The sum a task computes, as the sum over all interests of those whose rank is below the count. -/
theorem cand_eq (fi : Vec Ideal S8192 .f32) (dk : BitVec 32) (hdk : dk.toInt ≤ 6) (u h : ℕ) (d : Fin 16) :
    cand fi k0 k1 (fun _ => dk) u h (ixN 16 d.val)
      = ∑ k : Fin 32, (x k * if (rank (before x) k : ℤ) < dk.toInt then 1 else 0) * fi (ixN 8192 (u * 1024 + k.val * 32 + h * 16 + d.val)) := by
  let g : Fin 32 → EReal := fun k => fi (ixN 8192 (u * 1024 + k.val * 32 + h * 16 + d.val))
  have hacc : ∀ n : ℕ, n ≤ 6 → acc fi (topK k0 k1 fun _ => dk) (topV k0 k1) u h n (ixN 16 d.val)
      = ∑ r : Fin 32, if r.val < n then (if (r.val : ℤ) < dk.toInt then x ((total x).nth r) else 0) * g ((total x).nth r) else 0 := by
    intro n
    induction n with
    | zero =>
      intro _
      show Ideal.ofBits .f32 0x00000000#32 = _
      rw [Ideal.ofBits_zero_f32]
      exact (Finset.sum_eq_zero fun r _ => if_neg (Nat.not_lt_zero _)).symm
    | succ n ih =>
      intro hn
      have hr := topK_eq k0 k1 x h0 h1 dk ⟨n, by omega⟩ (by show n < 8; omega)
      have hv := topV_eq k0 k1 x h0 h1 ⟨n, by omega⟩ (by show n < 8; omega)
      show acc fi (topK k0 k1 fun _ => dk) (topV k0 k1) u h n (ixN 16 d.val)
        + topK k0 k1 (fun _ => dk) (ixN 16 n) * fi (ixN 8192 (u * 1024 + (topV k0 k1 (ixN 16 n)).toNat * 32 + h * 16 + (ixN 16 d.val 0).val)) = _
      rw [ih (by omega), hr, hv, ixN16]
      have hs : ∀ r : Fin 32, (if r.val < n + 1 then (if (r.val : ℤ) < dk.toInt then x ((total x).nth r) else 0) * g ((total x).nth r) else 0)
          = (if r.val < n then (if (r.val : ℤ) < dk.toInt then x ((total x).nth r) else 0) * g ((total x).nth r) else 0)
            + if r = (⟨n, by omega⟩ : Fin 32) then (if (r.val : ℤ) < dk.toInt then x ((total x).nth r) else 0) * g ((total x).nth r) else 0 := by
        intro r
        rcases lt_trichotomy r.val n with hl | he | hg
        · rw [if_pos (by omega), if_pos hl, if_neg (fun e => absurd (congrArg Fin.val e) (by show r.val ≠ n; omega)), add_zero]
        · rw [if_pos (show r.val < n + 1 by omega), if_neg (show ¬ r.val < n by omega), if_pos (show r = (⟨n, by omega⟩ : Fin 32) from Fin.ext he), zero_add]
        · rw [if_neg (by omega), if_neg (by omega), if_neg (fun e => absurd (congrArg Fin.val e) (by show r.val ≠ n; omega)), add_zero]
      rw [Finset.sum_congr rfl fun r _ => hs r, Finset.sum_add_distrib, Finset.sum_ite_eq' Finset.univ, if_pos (Finset.mem_univ _)]
  unfold cand
  rw [hacc 6 le_rfl, ← Equiv.sum_comp (total x).nth fun k : Fin 32 =>
    (x k * if (rank (before x) k : ℤ) < dk.toInt then 1 else 0) * fi (ixN 8192 (u * 1024 + k.val * 32 + h * 16 + d.val))]
  refine Finset.sum_congr rfl fun r _ => ?_
  rw [(total x).rank_nth]
  by_cases hr : (r.val : ℤ) < dk.toInt
  · rw [if_pos hr, if_pos hr, if_pos (by omega), mul_one]
  · rw [if_neg hr, if_neg hr, mul_zero, zero_mul, ite_self]

end top

end Cert.Proof.Run

end
-- ==== Proof.Soft.lean ====
/-
  The weights of one interest over the history, over the extended reals: what the kernel computes (the exponential of the shifted score
  times the reciprocal of the sum, and one for the score of an interest that is not extracted) and what the reference computes (the
  softmax of the masked scores, an undefined or infinite quotient replaced by zero) are the same numbers.
-/
module

public import Idealize.ShloMosaic.PureOps.Ideal.Laws
public import Idealize.ShloMosaic.Lib.IdealHost

@[expose] public section

noncomputable section

namespace Cert.Proof.Soft

open Idealize.ShloMosaic

variable {n : ℕ}

/-- The greatest of the scores, minus infinity among none. -/
def top (s : Fin n → EReal) : EReal := (Finset.univ : Finset (Fin n)).fold max ⊥ s

/-- The unnormalised weight of place `l`: the exponential of the shifted score, or one if the interest is not extracted. -/
def expo (p : Prop) [Decidable p] (s : Fin n → EReal) (l : Fin n) : EReal := if p then Ideal.exp (s l - top s) else 1

/-- The weight of place `l`. -/
def share (p : Prop) [Decidable p] (s : Fin n → EReal) (l : Fin n) : EReal := expo p s l * Ideal.div 1 (∑ k, expo p s k)

theorem exp_nonneg (x : EReal) : 0 ≤ Ideal.exp x := by
  induction x with
  | bot => simp
  | top => simp
  | coe r => rw [Ideal.exp_coe]; exact_mod_cast (Real.exp_pos r).le

theorem expo_nonneg (p : Prop) [Decidable p] (s : Fin n → EReal) (l : Fin n) : 0 ≤ expo p s l := by
  unfold expo
  split
  · exact exp_nonneg _
  · exact zero_le_one

theorem top_const (c : EReal) (hn : 0 < n) : top (fun _ : Fin n => c) = c := by
  have h : ∀ t : Finset (Fin n), t.Nonempty → t.fold max (⊥ : EReal) (fun _ => c) = c := by
    intro t ht
    induction ht using Finset.Nonempty.cons_induction with
    | singleton a => simp
    | cons a t ha ht ih => rw [Finset.fold_cons, ih, max_self]
  exact h _ ⟨⟨0, hn⟩, Finset.mem_univ _⟩

/-- The reference's exponential, of the scores masked by a finite number, is the kernel's. -/
theorem expo_masked (p : Prop) [Decidable p] (s : Fin n → EReal) (c : ℝ) (l : Fin n) :
    Ideal.exp ((if p then s l else (c : EReal)) - max ⊥ (top fun k => if p then s k else (c : EReal))) = expo p s l := by
  unfold expo
  rw [max_eq_right bot_le]
  by_cases h : p
  · simp only [h, if_true]
  · simp only [h, if_false]
    rw [top_const (c : EReal) (Nat.lt_of_le_of_lt (Nat.zero_le _) l.isLt), ← EReal.coe_sub, sub_self, Ideal.exp_coe, Real.exp_zero, EReal.coe_one]

/-- A quotient with an infinite value replaced by zero. -/
def tame (q : EReal) : EReal := if (if q = ⊤ then 0 else q) = ⊥ then 0 else (if q = ⊤ then 0 else q)

/-- Of nonnegative numbers with sum `S`, the tamed quotient by `S` is the product with the reciprocal of `S`. -/
theorem tame_div (e : Fin n → EReal) (h : ∀ l, 0 ≤ e l) (l : Fin n) : tame (Ideal.div (e l) (∑ k, e k)) = e l * Ideal.div 1 (∑ k, e k) := by
  have hle : e l ≤ ∑ k, e k := Finset.single_le_sum (fun k _ => h k) (Finset.mem_univ l)
  have hl := h l
  generalize (∑ k, e k) = S at *
  generalize e l = x at *
  unfold tame Ideal.div
  by_cases hS : S = 0
  · subst hS
    obtain rfl : x = 0 := le_antisymm hle hl
    simp
  rw [if_neg hS, if_neg hS, one_mul]
  have hfin : ∃ r : ℝ, x * S⁻¹ = (r : EReal) := by
    induction S with
    | bot => exact absurd (hl.trans hle) (by simp)
    | top => exact ⟨0, by simp⟩
    | coe s =>
      induction x with
      | bot => exact absurd hl (by simp)
      | top => exact absurd hle (by simp)
      | coe r => exact ⟨r * s⁻¹, by rw [EReal.coe_mul, EReal.coe_inv]⟩
  obtain ⟨r, hr⟩ := hfin
  rw [hr]
  simp

/-- The reference's weight is the kernel's. -/
theorem share_eq (p : Prop) [Decidable p] (s : Fin n → EReal) (l : Fin n) : tame (Ideal.div (expo p s l) (0 + ∑ k, expo p s k)) = share p s l := by
  rw [zero_add]
  exact tame_div _ (expo_nonneg p s) l

end Cert.Proof.Soft
end
-- ==== Proof.Spec.lean ====
/-
  One user's result as plain sums: the interests read off the history, the affinity of each candidate to each interest, and the sum over
  the interests whose affinity is among the best.
-/
module

public import proofs.«01_k».proof.Proof.Soft
public import proofs.«01_k».proof.Proof.Order

@[expose] public section

noncomputable section

namespace Cert.Proof.Spec

open Idealize.ShloMosaic
open Cert.Proof.Rank (rank before)

/-- The score of history place `l` for interest `k`. -/
def score (H : Fin 200 → Fin 32 → EReal) (W C : Fin 32 → Fin 32 → EReal) (k : Fin 32) (l : Fin 200) : EReal :=
  ∑ c : Fin 32, Ideal.tanh (∑ d : Fin 32, H l d * W c d) * C k c

/-- Interest `k` is among the `n` extracted. -/
abbrev live (n : BitVec 32) (k : Fin 32) : Prop := IntOp.cmpi .slt (BitVec.ofNat 32 k.val) n = 1#1

/-- Coordinate `d` of interest `k`. -/
def interest (H : Fin 200 → Fin 32 → EReal) (W C : Fin 32 → Fin 32 → EReal) (n : BitVec 32) (k d : Fin 32) : EReal :=
  ∑ l : Fin 200, Soft.share (live n k) (score H W C k) l * H l d

/-- The affinity of a candidate to interest `k`. -/
def affinity (I : Fin 32 → Fin 32 → EReal) (e : Fin 32 → EReal) (k : Fin 32) : EReal := ∑ d : Fin 32, e d * I k d

/-- Coordinate `d` of a candidate's result: the interests weighted by their affinities, those of rank `r` and later left out. -/
def result (I : Fin 32 → Fin 32 → EReal) (a : Fin 32 → EReal) (r : ℤ) (d : Fin 32) : EReal :=
  ∑ k : Fin 32, (a k * if (rank (before a) k : ℤ) < r then 1 else 0) * I k d

end Cert.Proof.Spec
end
-- ==== Proof.TcVal.lean ====
/-
  What the TensorCore's kernel leaves, read at an index over the extended reals: the interests and affinities of a block's users are the
  specification's, of the user's history, the two small matrices transposed, and the user's candidates.
-/
module

public import proofs.«01_k».proof.Proof.TcBody
public import proofs.«01_k».proof.Proof.Spec
public import Idealize.ShloMosaic.Lib.Pointwise

@[expose] public section

noncomputable section

namespace Cert.Proof.Run

open Cert.KernelIdeal Cert.KernelIdeal.Gen
open Idealize.ShloMosaic
open Cert.Proof.Spec (interest affinity score live)

/-- The pattern of minus infinity. -/
theorem ofBits_neg_inf : Ideal.ofBits .f32 0xFF800000#32 = ⊥ := by simp [Ideal.ofBits, Ideal.ieee]
/-- The pattern of plus infinity. -/
theorem ofBits_pos_inf : Ideal.ofBits .f32 0x7F800000#32 = ⊤ := by simp [Ideal.ofBits, Ideal.ieee]

/-- A block's softmax weights at user `b`, place `l`, interest `k`. -/
theorem pay2_at (H : FVec Ideal S32x200x32 .f32) (W C : FVec Ideal S32x32 .f32) (n : IVec S32x1 32) (b : Fin 32) (l : Fin 200) (k : Fin 32) :
    k0_pay2 (F := Ideal) H W C n (Idealize.ShloMosaic.ix3 b l k)
      = Soft.share (live (n (ix2 b 0)) k)
          (score (fun l d => H (Idealize.ShloMosaic.ix3 b l d)) (fun c d => W (ix2 d c)) (fun k c => C (ix2 c k)) k) l := by
  unfold k0_pay2
  pointwise
  rw [ofBits_neg_inf]
  rfl

/-- The interests of a block's user. -/
abbrev blkI (x1 : IVec S32x1 32) (x2 : FVec Ideal S32x200x32 .f32) (x4 x5 : FVec Ideal S32x32 .f32) (b : Fin 32) : Fin 32 → Fin 32 → EReal :=
  interest (fun l d => x2 (Idealize.ShloMosaic.ix3 b l d)) (fun c d => x4 (ix2 d c)) (fun k c => x5 (ix2 c k)) (x1 (ix2 b 0))

/-- The two products of a user, of any operands. -/
theorem dotI_at (A B : FVec Ideal S200x32 .f32) (k d : Fin 32) :
    matmul dot_S200x32_S200x32_S32x32_0_0_1_1_n_n none A B (constant S32x32 .f32 0x00000000#32) (ix2 k d) = ∑ l : Fin 200, A (ix2 l k) * B (ix2 l d) := by
  pointwise
theorem dotA_at (A : FVec Ideal S5x32 .f32) (B : FVec Ideal S32x32 .f32) (m : Fin 5) (k : Fin 32) :
    matmul dot_S5x32_S32x32_S5x32_1_1_0_0_n_n none A B (constant S5x32 .f32 0x00000000#32) (ix2 m k) = ∑ d : Fin 32, A (ix2 m d) * B (ix2 k d) := by
  pointwise

/-- The user's row of an array of rows, sliced or loaded, is the array at the user. -/
theorem ld_at {n k : ℕ} (x : FVec Ideal ⟨3, ![32, n, k]⟩ .f32) (b : Fin 32)
    (inb : ∀ a, (![b.val, 0, 0] : Fin 3 → ℕ) a + (⟨3, ![1, n, k]⟩ : Shape).size a ≤ (⟨3, ![32, n, k]⟩ : Shape).size a)
    (y : (⟨3, ![1, n, k]⟩ : Shape).Idx) :
    View.ld (Val := Elt Ideal) (e' := .f32) x (Rect.unit (s := ⟨3, ![32, n, k]⟩) ![b.val, 0, 0] ![1, n, k] inb) y = x (Idealize.ShloMosaic.ix3 b (y 1) (y 2)) := by
  show x ((Rect.unit (s := ⟨3, ![32, n, k]⟩) ![b.val, 0, 0] ![1, n, k] inb).emb y) = _
  rw [emb3 b inb y]
  congr 1
  funext a
  fin_cases a <;> rfl

theorem slice_at (v : FVec Ideal S32x200x32 .f32) (b : Fin 32) (y : S1x200x32.Idx) :
    extractStridedSlice S1x200x32 ![b.val, 0, 0] v (slB b) y = v (Idealize.ShloMosaic.ix3 b (y 1) (y 2)) := by
  refine extractStridedSlice_apply _ v (slB b) y _ fun a => ?_
  have h0 : (y 0).val < 1 := (y 0).isLt
  fin_cases a
  · show b.val = b.val + (y 0).val; omega
  · show (y 1).val = 0 + (y 1).val; omega
  · show (y 2).val = 0 + (y 2).val; omega

theorem cast200_at (v : FVec Ideal S1x200x32 .f32) (l : Fin 200) (k : Fin 32) :
    shapeCast S200x32 v shapeCasts_S1x200x32_S200x32 (ix2 l k) = v (Idealize.ShloMosaic.ix3 0 l k) := by
  pointwise
theorem cast5_at (v : FVec Ideal S1x5x32 .f32) (l : Fin 5) (k : Fin 32) :
    shapeCast S5x32 v shapeCasts_S1x5x32_S5x32 (ix2 l k) = v (Idealize.ShloMosaic.ix3 0 l k) := by
  pointwise

theorem userI_at (v x2 : FVec Ideal S32x200x32 .f32) (b k d : Fin 32) :
    userI (F := Ideal) v x2 b (ix2 k d) = ∑ l : Fin 200, v (Idealize.ShloMosaic.ix3 b l k) * x2 (Idealize.ShloMosaic.ix3 b l d) := by
  unfold userI
  rw [dotI_at]
  refine Finset.sum_congr rfl fun l _ => ?_
  rw [cast200_at, cast200_at, slice_at]
  exact congrArg (_ * ·) (ld_at x2 b (inbH b) _)

theorem userA_at (v x2 : FVec Ideal S32x200x32 .f32) (x3 : FVec Ideal S32x5x32 .f32) (b : Fin 32) (m : Fin 5) (k : Fin 32) :
    userA (F := Ideal) v x2 x3 b (ix2 m k) = ∑ d : Fin 32, x3 (Idealize.ShloMosaic.ix3 b m d) * userI (F := Ideal) v x2 b (ix2 k d) := by
  unfold userA
  rw [dotA_at]
  refine Finset.sum_congr rfl fun d _ => ?_
  rw [cast5_at]
  exact congrArg (· * _) (ld_at x3 b (inbC b) _)

theorem piece32_at (v : FVec Ideal S32x32 .f32) (k d : Fin 32) :
    shapeCast S1x32x32 v shapeCasts_S32x32_S1x32x32 (Idealize.ShloMosaic.ix3 0 k d) = v (ix2 k d) := by
  pointwise
theorem piece5_at (v : FVec Ideal S5x32 .f32) (k : Fin 5) (d : Fin 32) :
    shapeCast S1x5x32 v shapeCasts_S5x32_S1x5x32 (Idealize.ShloMosaic.ix3 0 k d) = v (ix2 k d) := by
  pointwise

theorem rowsI_at (v x2 : FVec Ideal S32x200x32 .f32) (b k d : Fin 32) :
    rowsI (F := Ideal) v x2 (Idealize.ShloMosaic.ix3 b k d) = ∑ l : Fin 200, v (Idealize.ShloMosaic.ix3 b l k) * x2 (Idealize.ShloMosaic.ix3 b l d) :=
  (piece32_at (userI (F := Ideal) v x2 b) k d).trans (userI_at v x2 b k d)
theorem rowsA_at (v x2 : FVec Ideal S32x200x32 .f32) (x3 : FVec Ideal S32x5x32 .f32) (b : Fin 32) (m : Fin 5) (k : Fin 32) :
    rowsA (F := Ideal) v x2 x3 (Idealize.ShloMosaic.ix3 b m k)
      = ∑ d : Fin 32, x3 (Idealize.ShloMosaic.ix3 b m d) * ∑ l : Fin 200, v (Idealize.ShloMosaic.ix3 b l k) * x2 (Idealize.ShloMosaic.ix3 b l d) :=
  ((piece5_at (userA (F := Ideal) v x2 x3 b) m k).trans (userA_at v x2 x3 b m k)).trans
    (Finset.sum_congr rfl fun d _ => congrArg (_ * ·) (userI_at v x2 b k d))

theorem tcI_at (x1 : IVec S32x1 32) (x2 : FVec Ideal S32x200x32 .f32) (x4 x5 : FVec Ideal S32x32 .f32) (b k d : Fin 32) :
    tcI (F := Ideal) x1 x2 x4 x5 (Idealize.ShloMosaic.ix3 b k d) = blkI x1 x2 x4 x5 b k d :=
  (rowsI_at _ x2 b k d).trans (Finset.sum_congr rfl fun l _ => congrArg (· * _) (pay2_at x2 x4 x5 x1 b l k))

theorem tcA_at (x1 : IVec S32x1 32) (x2 : FVec Ideal S32x200x32 .f32) (x3 : FVec Ideal S32x5x32 .f32) (x4 x5 : FVec Ideal S32x32 .f32)
    (b : Fin 32) (m : Fin 5) (k : Fin 32) :
    tcA (F := Ideal) x1 x2 x3 x4 x5 (Idealize.ShloMosaic.ix3 b m k)
      = affinity (blkI x1 x2 x4 x5 b) (fun d => x3 (Idealize.ShloMosaic.ix3 b m d)) k :=
  (rowsA_at _ x2 x3 b m k).trans (Finset.sum_congr rfl fun d _ => congrArg (_ * ·)
    (Finset.sum_congr rfl fun l _ => congrArg (· * _) (pay2_at x2 x4 x5 x1 b l k)))

end Cert.Proof.Run
end
-- ==== Proof.TcArr.lean ====
/-
  What the TensorCore's kernel leaves in its two results, read as extended reals: user by user the interests and each candidate's
  affinities, of the arrays the kernel was handed.  A block of the grid holds thirty-two users; the blocks tile the results.
-/
module

public import proofs.«01_k».proof.Proof.TcRegion
public import proofs.«01_k».proof.Proof.TcVal
public import Idealize.ShloMosaic.Lib.Pipeline.ValueKit

@[expose] public section

noncomputable section

namespace Cert.Proof.Run

open Cert.KernelIdeal Cert.KernelIdeal.Gen Idealize.ShloMosaic
open Cert.Proof.Spec
variable (V : Dev nD → Valuation τ sig (Elt Ideal)) (c : Dev nD)

/-- The blocks' positions. -/
theorem idx_at : ∀ t : Fin cfg0.N, win0_0.index t = ![t.val, 0] ∧ win0_1.index t = ![t.val, 0, 0] ∧ win0_2.index t = ![t.val, 0, 0]
    ∧ win0_3.index t = ![0, 0] ∧ win0_4.index t = ![0, 0] ∧ win0_5.index t = ![t.val, 0, 0] ∧ win0_6.index t = ![t.val, 0, 0] := by
  decide +kernel

/-- User `b` of block `t`. -/
abbrev usr (t : Fin cfg0.N) (b : Fin 32) : Fin 4096 := ⟨t.val * 32 + b.val, by have := t.isLt; have : cfg0.N = 128 := rfl; omega⟩

/-! ## The kernel's five inputs, and their blocks -/

abbrev aLen : Vec Ideal S4096x1 .i32 := V c (Proc.devRef .tc main_v15)
abbrev aHist : Vec Ideal S4096x200x32 .f32 := V c (Proc.devRef .tc main_arg0)
abbrev aCand : Vec Ideal S4096x5x32 .f32 := V c (Proc.devRef .tc main_arg2)
abbrev aW : Vec Ideal S32x32 .f32 := V c (Proc.devRef .tc main_v16)
abbrev aC : Vec Ideal S32x32 .f32 := V c (Proc.devRef .tc main_v17)

theorem b0_at (t : Fin cfg0.N) (b : Fin 32) : b0 V c t (ix2 b 0) = aLen V c (ix2 (usr t b) 0) := by
  refine congrArg (aLen V c) (?_ : ((cfg0.win 0).blk t).view.emb (ix2 b 0) = (ix2 (usr t b) 0))
  blk_ext [(idx_at t).1]
theorem b1_at (t : Fin cfg0.N) (b : Fin 32) (l : Fin 200) (d : Fin 32) :
    b1 V c t (Idealize.ShloMosaic.ix3 b l d) = aHist V c (Idealize.ShloMosaic.ix3 (usr t b) l d) := by
  refine congrArg (aHist V c) (?_ : ((cfg0.win 1).blk t).view.emb (Idealize.ShloMosaic.ix3 b l d) = (Idealize.ShloMosaic.ix3 (usr t b) l d))
  blk_ext [(idx_at t).2.1]
theorem b2_at (t : Fin cfg0.N) (b : Fin 32) (l : Fin 5) (d : Fin 32) :
    b2 V c t (Idealize.ShloMosaic.ix3 b l d) = aCand V c (Idealize.ShloMosaic.ix3 (usr t b) l d) := by
  refine congrArg (aCand V c) (?_ : ((cfg0.win 2).blk t).view.emb (Idealize.ShloMosaic.ix3 b l d) = (Idealize.ShloMosaic.ix3 (usr t b) l d))
  blk_ext [(idx_at t).2.2.1]
theorem b3_at (t : Fin cfg0.N) (i j : Fin 32) : b3 V c t (ix2 i j) = aW V c (ix2 i j) := by
  refine congrArg (aW V c) (?_ : ((cfg0.win 3).blk t).view.emb (ix2 i j) = (ix2 i j))
  blk_ext [(idx_at t).2.2.2.1]
theorem b4_at (t : Fin cfg0.N) (i j : Fin 32) : b4 V c t (ix2 i j) = aC V c (ix2 i j) := by
  refine congrArg (aC V c) (?_ : ((cfg0.win 4).blk t).view.emb (ix2 i j) = (ix2 i j))
  blk_ext [(idx_at t).2.2.2.2.1]

/-- A user's interests, of the arrays handed to the kernel. -/
def arrI (u : Fin 4096) : Fin 32 → Fin 32 → EReal :=
  interest (fun l d => aHist V c (Idealize.ShloMosaic.ix3 u l d)) (fun k d => aW V c (ix2 d k)) (fun k l => aC V c (ix2 l k)) (aLen V c (ix2 u 0))

theorem blkI_eq (t : Fin cfg0.N) (b : Fin 32) : blkI (b0 V c t) (b1 V c t) (b3 V c t) (b4 V c t) b = arrI V c (usr t b) := by
  unfold blkI arrI
  simp only [b0_at, b1_at, b3_at, b4_at]

theorem blkA_eq (t : Fin cfg0.N) (b : Fin 32) (n : Fin 5) (k : Fin 32) :
    affinity (blkI (b0 V c t) (b1 V c t) (b3 V c t) (b4 V c t) b) (fun d => b2 V c t (Idealize.ShloMosaic.ix3 b n d)) k
      = affinity (arrI V c (usr t b)) (fun d => aCand V c (Idealize.ShloMosaic.ix3 (usr t b) n d)) k := by
  rw [blkI_eq]
  simp only [b2_at]

/-! ## The two results -/

theorem arr5 : (dat V c).arrAt 5 cfg0.N = fun i : S4096x32x32.Idx => arrI V c (i 0) (i 1) (i 2) := by
  refine (dat V c).arrAt_eq_of_covers 5 _ (by decide +kernel) fun t hf y => ?_
  blk_simp
  have e0 : (win0_5.blk t).view.emb y 0 = usr t (y 0) := Fin.ext (by blk_simp [(idx_at t).2.2.2.2.2.1])
  have e1 : (win0_5.blk t).view.emb y 1 = y 1 := Fin.ext (by blk_simp [(idx_at t).2.2.2.2.2.1])
  have e2 : (win0_5.blk t).view.emb y 2 = y 2 := Fin.ext (by blk_simp [(idx_at t).2.2.2.2.2.1])
  rw [e0, e1, e2]
  have hy : (y : S32x32x32.Idx) = Idealize.ShloMosaic.ix3 (y 0) (y 1) (y 2) := funext fun a => by fin_cases a <;> rfl
  refine (congrArg (tcI (b0 V c t) (b1 V c t) (b3 V c t) (b4 V c t)) hy).trans ?_
  exact (tcI_at _ _ _ _ (y 0) (y 1) (y 2)).trans (congrFun (congrFun (blkI_eq V c t (y 0)) (y 1)) (y 2))
theorem arr6 : (dat V c).arrAt 6 cfg0.N = fun i : S4096x5x32.Idx =>
    affinity (arrI V c (i 0)) (fun d => aCand V c (Idealize.ShloMosaic.ix3 (i 0) (i 1) d)) (i 2) := by
  refine (dat V c).arrAt_eq_of_covers 6 _ (by decide +kernel) fun t hf y => ?_
  blk_simp
  have e0 : (win0_6.blk t).view.emb y 0 = usr t (y 0) := Fin.ext (by blk_simp [(idx_at t).2.2.2.2.2.2])
  have e1 : (win0_6.blk t).view.emb y 1 = y 1 := Fin.ext (by blk_simp [(idx_at t).2.2.2.2.2.2])
  have e2 : (win0_6.blk t).view.emb y 2 = y 2 := Fin.ext (by blk_simp [(idx_at t).2.2.2.2.2.2])
  rw [e0, e1, e2]
  have hy : (y : S32x5x32.Idx) = Idealize.ShloMosaic.ix3 (y 0) (y 1) (y 2) := funext fun a => by fin_cases a <;> rfl
  refine (congrArg (tcA (b0 V c t) (b1 V c t) (b2 V c t) (b3 V c t) (b4 V c t)) hy).trans ?_
  exact (tcA_at _ _ _ _ _ (y 0) (y 1) (y 2)).trans (blkA_eq V c t (y 0) (y 1) (y 2))
end Cert.Proof.Run
end
-- ==== Proof.KerVal.lean ====
/-
  The kernel's result read as extended reals: what the operations before the two kernels hand over, the SparseCores' selection at an
  index, and from them the result of each user, candidate and coordinate as the plain sum.
-/
module

public import proofs.«01_k».proof.Proof.Frames
public import proofs.«01_k».proof.Proof.Count
public import proofs.«01_k».proof.Proof.Select
public import proofs.«01_k».proof.Proof.TcArr
public import Idealize.ShloMosaic.Lib.StableHlo.ReadAt
public import Idealize.ShloMosaic.Lib.Pointwise

@[expose] public section

noncomputable section

namespace Cert.Proof.Run

open Cert.KernelIdeal Cert.KernelIdeal.Gen Idealize.ShloMosaic
open Cert.Proof.Spec Cert.Proof.Rank

/-! ## The selection at an index -/

/-- The call's result at coordinate `j` of candidate `i` of user `b`, of the three flat arrays. -/
theorem scOut_at (gA : Vec Ideal S655360 .f32) (gD : Vec Ideal S4112 .i32) (gI : Vec Ideal S4194304 .f32) (b : Fin 4096) (i : Fin 5) (j : Fin 32)
    (hn : (gD (ixN 4112 b.val)).toInt ≤ 6) :
    scOut gA gD gI (ixN 655360 (b.val * 160 + i.val * 32 + j.val))
      = result (fun k e => gI (ixN 4194304 (b.val * 1024 + k.val * 32 + e.val))) (fun k => gA (ixN 655360 (b.val * 160 + i.val * 32 + k.val)))
          (gD (ixN 4112 b.val)).toInt j := by
  obtain ⟨b, hb⟩ := b
  obtain ⟨i, hi5⟩ := i
  obtain ⟨j, hj⟩ := j
  simp only at hn ⊢
  unfold scOut outL
  simp only [ixN_zero_val]
  rw [show (b * 160 + i * 32 + j) % 655360 / 1280 = b / 8 by omega, show (b * 160 + i * 32 + j) % 655360 % 1280 % 1280 = b % 8 * 160 + i * 32 + j by omega,
    show (b % 8 * 160 + i * 32 + j) / 32 * 32 = b % 8 * 160 + i * 32 by omega, show (b % 8 * 160 + i * 32 + j) / 160 = b % 8 by omega,
    show (b % 8 * 160 + i * 32 + j) % 32 / 16 = j / 16 by omega, show (b % 8 * 160 + i * 32 + j) % 16 = j % 16 by omega]
  have hd : seg 4112 16 gD (b / 8 * 8) (ixN 16 (b % 8)) = gD (ixN 4112 b) :=
    congrArg gD (idx_ext (by simp only [ixN_zero_val]; omega))
  rw [hd]
  refine (cand_eq _ _ (fun k : Fin 32 => gA (ixN 655360 (b * 160 + i * 32 + k.val))) ?_ ?_ _ _ hn _ _ (⟨j % 16, by omega⟩ : Fin 16)).trans ?_
  · funext t
    refine congrArg gA (idx_ext ?_)
    have := t.isLt
    simp only [ixN_zero_val, lo]
    omega
  · funext t
    refine congrArg gA (idx_ext ?_)
    have := t.isLt
    simp only [ixN_zero_val, hi]
    omega
  · refine Finset.sum_congr rfl fun k _ => congrArg (_ * ·) (congrArg gI (idx_ext ?_))
    have := k.isLt
    simp only [ixN_zero_val]
    omega

/-! ## What the operations hand over -/

variable (m : (ℓ : Loc nD τ sig) → Buf (Elt Ideal) ℓ) (d : Dev nD)

abbrev arg0 : Vec Ideal S4096x200x32 .f32 := m (d, Proc.devRef .tc main_arg0)
abbrev arg2 : Vec Ideal S4096x5x32 .f32 := m (d, Proc.devRef .tc main_arg2)
abbrev arg3 : Vec Ideal S4096 .i32 := m (d, Proc.devRef .tc main_arg3)
abbrev arg4 : Vec Ideal S4096 .i32 := m (d, Proc.devRef .tc main_arg4)
abbrev arg5 : Vec Ideal S32x32 .f32 := m (d, Proc.devRef .tc main_arg5)
abbrev arg6 : Vec Ideal S32x32 .f32 := m (d, Proc.devRef .tc main_arg6)

theorem W1_v15 (b : Fin 4096) : aLen (W1 m) d (ix2 b 0) = arg3 m d (ix1 b) := by
  unfold aLen W1 ops0
  after_reads_at
  rfl
theorem W1_v16 (i j : Fin 32) : aW (W1 m) d (ix2 i j) = arg5 m d (ix2 j i) := by
  unfold aW W1 ops0
  after_reads_at
  rfl
theorem W1_v17 (i j : Fin 32) : aC (W1 m) d (ix2 i j) = arg6 m d (ix2 j i) := by
  unfold aC W1 ops0
  after_reads_at
  rfl
theorem W1_v14 (b : Fin 4096) (h : b.val < 4112) : (W1 m d (Proc.devRef .tc main_v14) : Vec Ideal S4112 .i32) (ix1 (⟨b.val, h⟩ : Fin 4112)) = Count.cnt (arg4 m d (ix1 b)) := by
  unfold W1 ops0
  after_reads_at
  rfl
theorem W1_arg0 : aHist (W1 m) d = arg0 m d := W1_keep m d main_arg0 (by decide)
theorem W1_arg2 : aCand (W1 m) d = arg2 m d := W1_keep m d main_arg2 (by decide)

/-- A user's interests, of the arguments. -/
def kerI (b : Fin 4096) : Fin 32 → Fin 32 → EReal :=
  interest (fun l e => arg0 m d (Idealize.ShloMosaic.ix3 b l e)) (fun k e => arg5 m d (ix2 k e)) (fun k l => arg6 m d (ix2 k l)) (arg3 m d (ix1 b))
/-- A candidate's affinities, of the arguments. -/
def kerA (b : Fin 4096) (i : Fin 5) : Fin 32 → EReal := affinity (kerI m d b) (fun e => arg2 m d (Idealize.ShloMosaic.ix3 b i e))

theorem arrI_eq (b : Fin 4096) : arrI (W1 m) d b = kerI m d b := by
  have key : ∀ {H H' : Fin 200 → Fin 32 → EReal} {W W' C C' : Fin 32 → Fin 32 → EReal} {n n' : BitVec 32}, H = H' → W = W' → C = C' → n = n' →
      interest H W C n = interest H' W' C' n' := by
    rintro _ _ _ _ _ _ _ _ rfl rfl rfl rfl
    rfl
  exact key (by rw [W1_arg0]) (funext₂ fun _ _ => W1_v16 m d _ _) (funext₂ fun _ _ => W1_v17 m d _ _) (W1_v15 m d b)

/-! ## The flat arrays at the call -/

theorem W2_v18_0 : (W2 m d (Proc.devRef .tc main_v18_0) : Vec Ideal S4096x32x32 .f32) = fun i => kerI m d (i 0) (i 1) (i 2) := by
  refine (Pipeline.afterRegion_arr (dat (W1 m) d) (W1 m d) launch0.win.arr_inj 5).trans ((arr5 (W1 m) d).trans ?_)
  funext i
  exact congrFun (congrFun (arrI_eq m d (i 0)) (i 1)) (i 2)
theorem W2_v18_1 : (W2 m d (Proc.devRef .tc main_v18_1) : Vec Ideal S4096x5x32 .f32) = fun i => kerA m d (i 0) (i 1) (i 2) := by
  refine (Pipeline.afterRegion_arr (dat (W1 m) d) (W1 m d) launch0.win.arr_inj 6).trans ((arr6 (W1 m) d).trans ?_)
  funext i
  exact congrFun (congrArg₂ affinity (arrI_eq m d (i 0)) (funext fun e => congrFun (W1_arg2 m d) (Idealize.ShloMosaic.ix3 (i 0) (i 1) e))) (i 2)

theorem vA_at (n : Fin 655360) : (vA m d : Vec Ideal S655360 .f32) (ix1 n)
    = kerA m d ⟨n.val / 160, by omega⟩ ⟨n.val / 32 % 5, by omega⟩ ⟨n.val % 32, by omega⟩ := by
  show (W3 m d (Proc.devRef .tc main_v19) : Vec Ideal S655360 .f32) (ix1 n) = _
  unfold W3 ops1
  after_reads_at
  rw [W2_v18_1]
  rfl
theorem vI_at (n : Fin 4194304) : (vI m d : Vec Ideal S4194304 .f32) (ix1 n)
    = kerI m d ⟨n.val / 1024, by omega⟩ ⟨n.val / 32 % 32, by omega⟩ ⟨n.val % 32, by omega⟩ := by
  show (W3 m d (Proc.devRef .tc main_v20) : Vec Ideal S4194304 .f32) (ix1 n) = _
  unfold W3 ops1
  after_reads_at
  rw [W2_v18_0]
  rfl
theorem vD_eq : vD m d = W1 m d (Proc.devRef .tc main_v14) :=
  (W3_keep m d main_v14 (by decide)).trans (W2_keep m d main_v14 (by decide))

theorem ixN_ix1 (N n : ℕ) [NeZero N] (h : n < N) : ixN N n = ix1 (⟨n, h⟩ : Fin N) :=
  (idx_eq_ixN (x := ix1 (⟨n, h⟩ : Fin N)) rfl).symm

theorem vA_row (b : Fin 4096) (i : Fin 5) (k : Fin 32) : (vA m d : Vec Ideal S655360 .f32) (ixN 655360 (b.val * 160 + i.val * 32 + k.val)) = kerA m d b i k := by
  obtain ⟨b, hb⟩ := b
  obtain ⟨i, hi5⟩ := i
  obtain ⟨k, hk⟩ := k
  rw [ixN_ix1 _ _ (by simp only; omega), vA_at]
  have e0 : (b * 160 + i * 32 + k) / 160 = b := by omega
  have e1 : (b * 160 + i * 32 + k) / 32 % 5 = i := by omega
  have e2 : (b * 160 + i * 32 + k) % 32 = k := by omega
  simp only [e0, e1, e2]
theorem vI_row (b : Fin 4096) (k e : Fin 32) : (vI m d : Vec Ideal S4194304 .f32) (ixN 4194304 (b.val * 1024 + k.val * 32 + e.val)) = kerI m d b k e := by
  obtain ⟨b, hb⟩ := b
  obtain ⟨k, hk⟩ := k
  obtain ⟨e, he⟩ := e
  rw [ixN_ix1 _ _ (by simp only; omega), vI_at]
  have e0 : (b * 1024 + k * 32 + e) / 1024 = b := by omega
  have e1 : (b * 1024 + k * 32 + e) / 32 % 32 = k := by omega
  have e2 : (b * 1024 + k * 32 + e) % 32 = e := by omega
  simp only [e0, e1, e2]
theorem vD_row (b : Fin 4096) : (vD m d : Vec Ideal S4112 .i32) (ixN 4112 b.val) = Count.cnt (arg4 m d (ix1 b)) := by
  rw [vD_eq, ixN_ix1 _ _ (by have := b.isLt; omega), W1_v14]

/-! ## The result -/

theorem W5_v22 (b : Fin 4096) (i : Fin 5) (j : Fin 32) (h : (arg4 m d (ix1 b)).toInt ≤ 32) :
    (W5 m d (Proc.devRef .tc main_v22) : Vec Ideal S4096x5x32 .f32) (Idealize.ShloMosaic.ix3 b i j)
      = result (kerI m d b) (kerA m d b i) (Count.cnt (arg4 m d (ix1 b))).toInt j := by
  unfold W5 ops2
  after_reads_at
  rw [show W4 m d (Proc.devRef .tc main_v21) = scOut (vA m d) (vD m d) (vI m d) from Function.update_self ..]
  rw [← ixN_ix1]
  refine (scOut_at _ _ _ b i j (by rw [vD_row]; exact Count.cnt_le _ h)).trans ?_
  have key : ∀ {I I' : Fin 32 → Fin 32 → EReal} {a a' : Fin 32 → EReal} {n n' : BitVec 32}, I = I' → a = a' → n = n' →
      result I a n.toInt j = result I' a' n'.toInt j := by
    rintro _ _ _ _ _ _ rfl rfl rfl
    rfl
  exact key (funext₂ fun _ _ => vI_row m d b _ _) (funext fun _ => vA_row m d b i _) (vD_row m d b)

end Cert.Proof.Run
end
-- ==== Proof.RefVal.lean ====
/-
  The reference's interests and affinities, read at an index over the extended reals: they are the specification's.
-/
module

public import proofs.«01_k».proof.Proof.Gen.ReferenceIdeal.Read
public import proofs.«01_k».proof.Proof.Spec
public import Idealize.ShloMosaic.Lib.Pointwise

@[expose] public section

noncomputable section

namespace Cert.Proof.Ref

open Cert.ReferenceIdeal Cert.ReferenceIdeal.Gen Cert.ReferenceIdeal.Read
open Idealize.ShloMosaic
open Cert.Proof.Spec (interest affinity score live)

variable (x0 : FVec Ideal S4096x200x32 .f32) (x2 : FVec Ideal S4096x5x32 .f32) (x3 : IVec S4096 32) (x5 x6 : FVec Ideal S32x32 .f32)

/-- One user's history, and the two small matrices, by their coordinates. -/
abbrev hist (b : Fin 4096) (l : Fin 200) (d : Fin 32) : EReal := x0 (ix3 b l d)
abbrev mat (x : FVec Ideal S32x32 .f32) (c d : Fin 32) : EReal := x (ix2 c d)

theorem minus_inf : Ideal.ofBits .f32 0xFF800000#32 = ⊥ := by simp [Ideal.ofBits, Ideal.ieee]
theorem plus_inf : Ideal.ofBits .f32 0x7F800000#32 = ⊤ := by simp [Ideal.ofBits, Ideal.ieee]
/-- The mask's score is finite. -/
theorem mask_finite : ∃ c : ℝ, Ideal.ofBits .f32 0xCE6E6B28#32 = (c : EReal) := by
  simp [Ideal.ofBits, Ideal.ieee]
  exact ⟨_, rfl⟩

/-- The mask's score. -/
def maskC : ℝ := mask_finite.choose
theorem maskC_eq : Ideal.ofBits .f32 0xCE6E6B28#32 = (maskC : EReal) := mask_finite.choose_spec

theorem v3_at (b : Fin 4096) (k : Fin 32) (l : Fin 200) :
    val_main_v3 (F := Ideal) x0 x5 x6 (ix3 b k l) = score (hist x0 b) (mat x5) (mat x6) k l := by
  unfold val_main_v3 val_main_v2 val_main_v1 val_main_v0
  pointwise
  rfl

theorem v9_at (b : Fin 4096) (k : Fin 32) :
    val_main_v9 (F := Ideal) x3 (ix2 b k) = IntOp.cmpi .slt (BitVec.ofNat 32 k.val) (x3 (ix1 b)) := by
  unfold val_main_v9 val_main_v8 val_main_v7 val_main_v6 val_main_v5 val_main_v4
  pointwise

theorem v11_at (b : Fin 4096) (k : Fin 32) (l : Fin 200) :
    val_main_v11 (F := Ideal) x0 x3 x5 x6 (ix3 b k l)
      = if live (x3 (ix1 b)) k then score (hist x0 b) (mat x5) (mat x6) k l else (maskC : EReal) := by
  unfold val_main_v11 val_main_call0_v0 val_main_v10 val_main_call0_v1 val_main_cst
  have h3 := v3_at x0 x5 x6 b k l
  have h9 := v9_at x3 b k
  generalize val_main_v3 (F := Ideal) x0 x5 x6 = y at *
  generalize val_main_v9 (F := Ideal) x3 = z at *
  pointwise
  rw [h3, h9, maskC_eq]
  rfl

/-- The host's maximum over the last axis, at an index. -/
theorem reduceMax_at (y : FVec Ideal S4096x32x200 .f32) (c : FVec Ideal S_ .f32) (b : Fin 4096) (k : Fin 32) :
    Host.reduce FloatOps.maximumf y c reducesTo_S4096x32x200_S4096x32_d2 h_S_ (ix2 b k)
      = (Finset.univ : Finset (Fin 200)).fold FloatOps.maximumf (c (Shape.Idx.first h_S_)) (fun l => y (ix3 b k l)) := by
  rw [Host.reduce_eq_fold, Shape.ReducesTo.fold_fiber_r3_a2]
  exact congrArg (fun g => Finset.fold _ _ g _) (funext fun l => congrArg y (funext fun a => by fin_cases a <;> rfl))

theorem v12_at (b : Fin 4096) (k : Fin 32) :
    val_main_v12 (F := Ideal) x0 x3 x5 x6 (ix2 b k)
      = Soft.top fun l => if live (x3 (ix1 b)) k then score (hist x0 b) (mat x5) (mat x6) k l else (maskC : EReal) := by
  unfold val_main_v12
  have h11 := v11_at x0 x3 x5 x6 b k
  generalize val_main_v11 (F := Ideal) x0 x3 x5 x6 = y at *
  rw [reduceMax_at, val_main_cst_0_apply, Ideal.ofBits_def, minus_inf]
  simp only [h11]
  rfl

theorem v16_at (b : Fin 4096) (k : Fin 32) (l : Fin 200) :
    val_main_v16 (F := Ideal) x0 x3 x5 x6 (ix3 b k l)
      = max ⊥ (Soft.top fun l => if live (x3 (ix1 b)) k then score (hist x0 b) (mat x5) (mat x6) k l else (maskC : EReal)) := by
  have e : idx_main_v15 (idx_main_v16 (ix3 b k l)) = ix2 b k := funext fun a => by fin_cases a <;> rfl
  rw [val_main_v16_apply, val_main_v15_apply, val_main_v14_apply, val_main_v13_apply, val_main_cst_1_apply, e, v12_at, Ideal.ofBits_def, minus_inf,
    Ideal.maximumf_def]

theorem v18_at (b : Fin 4096) (k : Fin 32) (l : Fin 200) :
    val_main_v18 (F := Ideal) x0 x3 x5 x6 (ix3 b k l)
      = Soft.expo (live (x3 (ix1 b)) k) (score (hist x0 b) (mat x5) (mat x6) k) l := by
  rw [← Soft.expo_masked _ _ maskC, val_main_v18_apply, val_main_v17_apply, v16_at, v11_at]
  rfl

theorem v22_at (b : Fin 4096) (k : Fin 32) (l : Fin 200) :
    val_main_v22 (F := Ideal) x0 x3 x5 x6 (ix3 b k l)
      = Ideal.div (Soft.expo (live (x3 (ix1 b)) k) (score (hist x0 b) (mat x5) (mat x6) k) l)
          (0 + ∑ l, Soft.expo (live (x3 (ix1 b)) k) (score (hist x0 b) (mat x5) (mat x6) k) l) := by
  unfold val_main_v22 val_main_v21 val_main_v20 val_main_v19 val_main_cst_2
  have h18 := v18_at x0 x3 x5 x6 b k
  generalize val_main_v18 (F := Ideal) x0 x3 x5 x6 = y at *
  pointwise
  simp only [h18, zero_add]

theorem v23_at (b : Fin 4096) (k : Fin 32) (l : Fin 200) :
    val_main_v23 (F := Ideal) x0 x3 x5 x6 (ix3 b k l)
      = Soft.share (live (x3 (ix1 b)) k) (score (hist x0 b) (mat x5) (mat x6) k) l := by
  rw [← Soft.share_eq, ← v22_at x0 x3 x5 x6 b k l]
  unfold val_main_v23 val_main_call1_v8 val_main_call1_v7 val_main_call1_v6 val_main_call1_v4 val_main_call1_v3 val_main_call1_v2 val_main_call1_v0
    val_main_call1_call0_v0 val_main_call1_call1_v0 val_main_call1_call2_v0 val_main_call1_v1 val_main_call1_v5 val_main_call1_v9
    val_main_call1_cst val_main_call1_cst_0 val_main_cst_3 val_main_cst_4 val_main_cst_5
  generalize val_main_v22 (F := Ideal) x0 x3 x5 x6 = y at *
  pointwise
  simp only [id, constant, Ideal.ofBits_def, Ideal.ofBits_zero_f32, plus_inf, minus_inf, ne_eq, not_true_eq_false, if_false]
  rfl

theorem v24_at (b : Fin 4096) (k d : Fin 32) :
    val_main_v24 (F := Ideal) x0 x3 x5 x6 (ix3 b k d) = interest (hist x0 b) (mat x5) (mat x6) (x3 (ix1 b)) k d := by
  unfold val_main_v24
  have h23 := v23_at x0 x3 x5 x6 b k
  generalize val_main_v23 (F := Ideal) x0 x3 x5 x6 = y at *
  pointwise
  simp only [h23]
  rfl

theorem v25_at (b : Fin 4096) (m : Fin 5) (k : Fin 32) :
    val_main_v25 (F := Ideal) x0 x2 x3 x5 x6 (ix3 b m k)
      = affinity (interest (hist x0 b) (mat x5) (mat x6) (x3 (ix1 b))) (fun d => x2 (ix3 b m d)) k := by
  unfold val_main_v25
  have h24 := v24_at x0 x3 x5 x6 b
  generalize val_main_v24 (F := Ideal) x0 x3 x5 x6 = y at *
  pointwise
  simp only [h24]
  rfl

end Cert.Proof.Ref
end
-- ==== Proof.RefRank.lean ====
/-
  The reference's result, read at an index over the extended reals.  The reference finds the ranks of a candidate's affinities by sorting the
  places by the negated affinity and then sorting the places of that sort; a stable sort breaks a tie by the place, so the ranks are those of
  the order with larger affinities first and, among equal ones, the smaller place first.
-/
module

public import proofs.«01_k».proof.Proof.RefVal
public import Idealize.ShloMosaic.Lib.Affine

@[expose] public section

noncomputable section

/-! ## A stable sort sees a relation only from a later place to an earlier one -/

namespace Cert.Proof.Rank

open Idealize.ShloMosaic

theorem stableSort_tie {ι : Type} (R R' : ι → ι → Bool) (l : List ι) (h : l.Pairwise fun a b => R b a = R' b a) :
    stableSort R l = stableSort R' l := by
  induction l with
  | nil => rfl
  | cons a l ih =>
    rw [List.pairwise_cons] at h
    show insertBefore R a (stableSort R l) = insertBefore R' a (stableSort R' l)
    rw [ih h.2]
    exact insertBefore_congr R R' a _ fun b hb => h.1 b ((perm_stableSort R' l).mem_iff.mp hb)

theorem sortedFrom_tie {n : ℕ} (R R' : Fin n → Fin n → Bool) (h : ∀ i j, j < i → R i j = R' i j) : sortedFrom R = sortedFrom R' := by
  have e : sortPositions n R = sortPositions n R' :=
    stableSort_tie R R' _ ((List.pairwise_lt_finRange n).imp fun hab => h _ _ hab)
  funext k
  unfold sortedFrom
  rw [List.get_of_eq e]
  rfl

/-- Sorting by the negated values alone is sorting by the order that breaks ties by the place. -/
theorem sortedFrom_before {n : ℕ} (x : Fin n → EReal) (B : Fin n → Fin n → Bool) (hB : ∀ i j, B i j = true ↔ x j < x i) (B' : Fin n → Fin n → Bool)
    (hB' : ∀ i j, B' i j = true ↔ sortedFrom B i < sortedFrom B j) (k : Fin n) : (sortedFrom B' k).val = rank (before x) k := by
  classical
  have e : sortedFrom B = sortedFrom fun i j => decide (before x i j) := by
    refine sortedFrom_tie _ _ fun i j hij => ?_
    rw [Bool.eq_iff_iff, hB, decide_eq_true_iff]
    unfold before
    exact ⟨.inl, fun h => h.resolve_right fun h' => absurd h'.2 (not_lt.mpr hij.le)⟩
  rw [e] at hB'
  exact (total x).sortedFrom_sortedFrom _ B' (fun i j => decide_eq_true_iff) hB' k

end Cert.Proof.Rank

namespace Cert.Proof.Ref

open Cert.ReferenceIdeal Cert.ReferenceIdeal.Gen Cert.ReferenceIdeal.Read
open Idealize.ShloMosaic
open Cert.Proof.Spec (interest affinity score live result)
open Cert.Proof.Rank (rank before sortedFrom_before total)

/-- The comparator of the first sort compares the keys. -/
theorem cmp_key (a b : EReal) (u v : BitVec 32) : (comparator_f32_i32_d2 (F := Ideal) (a, u) (b, v) == 1#1) = true ↔ a < b := by
  have hs : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := by
    intro x
    rw [Ideal.ofBits_zero_f32]
    by_cases h : x = 0
    · subst h; simp [Ideal.cmp, Scalar.select]
    · simp [Ideal.cmp, Scalar.select, h]
  show (Ideal.cmp .olt (Scalar.select (Ideal.cmp .une a a) (Ideal.ofBits .f32 0x7FC00000#32)
      (Scalar.select (Ideal.cmp .oeq a (Ideal.ofBits .f32 0x00000000#32)) (Ideal.ofBits .f32 0x00000000#32) a))
    (Scalar.select (Ideal.cmp .une b b) (Ideal.ofBits .f32 0x7FC00000#32)
      (Scalar.select (Ideal.cmp .oeq b (Ideal.ofBits .f32 0x00000000#32)) (Ideal.ofBits .f32 0x00000000#32) b)) == 1#1) = true ↔ _
  rw [hs, hs]
  by_cases h : a < b <;> simp [Ideal.cmp, h]

theorem toInt_small (a : ℕ) (ha : a < 32) : (BitVec.ofNat 32 a).toInt = a := by
  rw [BitVec.toInt_ofNat', Int.bmod_eq_of_le] <;> omega

variable (x0 : FVec Ideal S4096x200x32 .f32) (x2 : FVec Ideal S4096x5x32 .f32) (x3 x4 : IVec S4096 32) (x5 x6 : FVec Ideal S32x32 .f32)

/-- The second of a pair sorted along the last axis, at an index. -/
theorem sort_snd_at {α : Type} (cmp : α × BitVec 32 → α × BitVec 32 → BitVec 1) (y : S4096x5x32.Idx → α) (z : S4096x5x32.Idx → BitVec 32)
    (b : Fin 4096) (m : Fin 5) (k : Fin 32) :
    (Host.sort2 S4096x5x32 2 cmp y z).2 (ix3 b m k)
      = z (ix3 b m (sortedFrom (fun i j => cmp (y (ix3 b m i), z (ix3 b m i)) (y (ix3 b m j), z (ix3 b m j)) == 1#1) k)) := by
  have e : ∀ i : Fin 32, Shape.Idx.along (s := S4096x5x32) (ix3 b m k) (2 : Fin 3) i = ix3 b m i := fun i => by
    funext a
    unfold Shape.Idx.along
    fin_cases a <;> rfl
  unfold Host.sort2
  rw [dif_pos (by decide : 2 < S4096x5x32.rank)]
  exact congrArg (fun g : Fin 32 → S4096x5x32.Idx => z (g (sortedFrom (fun i j => cmp (y (g i), z (g i)) (y (g j), z (g j)) == 1#1) k))) (funext e)

/-- The affinities of a candidate. -/
abbrev aff (b : Fin 4096) (m : Fin 5) : Fin 32 → EReal := affinity (interest (hist x0 b) (mat x5) (mat x6) (x3 (ix1 b))) (fun d => x2 (ix3 b m d))

/-- The reference's ranks. -/
theorem v42_at (b : Fin 4096) (m : Fin 5) (k : Fin 32) :
    val_main_v42 (F := Ideal) x0 x2 x3 x5 x6 (ix3 b m k) = BitVec.ofNat 32 (rank (before (aff x0 x2 x3 x5 x6 b m)) k) := by
  have e40 : ∀ i : Fin 32, val_main_v40 (F := Ideal) x0 x2 x3 x5 x6 (ix3 b m i) = -aff x0 x2 x3 x5 x6 b m i := fun i => by
    rw [val_main_v40_apply, v25_at]; rfl
  have e4 : ∀ i : Fin 32, val_main_call4_v0 (F := Ideal) (ix3 b m i) = BitVec.ofNat 32 i.val := fun i => rfl
  have e5 : ∀ i : Fin 32, val_main_call5_v0 (F := Ideal) (ix3 b m i) = BitVec.ofNat 32 i.val := fun i => rfl
  unfold val_main_v42
  rw [sort_snd_at, e5]
  refine congrArg (BitVec.ofNat 32) ?_
  refine sortedFrom_before (aff x0 x2 x3 x5 x6 b m)
    (fun i j => comparator_f32_i32_d2 (F := Ideal) (-aff x0 x2 x3 x5 x6 b m i, BitVec.ofNat 32 i.val) (-aff x0 x2 x3 x5 x6 b m j, BitVec.ofNat 32 j.val) == 1#1)
    (fun i j => ?_) _ (fun i j => ?_) k
  · rw [cmp_key, EReal.neg_lt_neg_iff]
  · have e41 : ∀ i : Fin 32, val_main_v41 (F := Ideal) x0 x2 x3 x5 x6 (ix3 b m i) = BitVec.ofNat 32 (sortedFrom
        (fun i j => comparator_f32_i32_d2 (F := Ideal) (-aff x0 x2 x3 x5 x6 b m i, BitVec.ofNat 32 i.val) (-aff x0 x2 x3 x5 x6 b m j, BitVec.ofNat 32 j.val) == 1#1) i).val := by
      intro i
      unfold val_main_v41
      rw [sort_snd_at, e4]
      simp only [e40, e4]
    rw [e41, e41, beq_iff_eq]
    show IntOp.cmpi .slt _ _ = 1#1 ↔ _
    rw [IntOp.cmpi_slt, toInt_small _ (Fin.isLt _), toInt_small _ (Fin.isLt _)]
    exact Int.ofNat_lt

/-- The mask is one at the ranks below the candidate's count, zero at the others. -/
theorem v46_at (b : Fin 4096) (m : Fin 5) (k : Fin 32) :
    val_main_v46 (F := Ideal) x0 x2 x3 x4 x5 x6 (ix3 b m k)
      = if (rank (before (aff x0 x2 x3 x5 x6 b m)) k : ℤ) < (val_main_v39 (F := Ideal) x4 (ix1 b)).toInt then (1 : EReal) else 0 := by
  have e : val_main_v44 (F := Ideal) x4 (ix3 b m k) = val_main_v39 (F := Ideal) x4 (ix1 b) := by
    rw [val_main_v44_apply, val_main_v43_apply]
    exact congrArg _ (funext fun a => by fin_cases a; rfl)
  have hr := (total (aff x0 x2 x3 x5 x6 b m)).rank_lt k
  rw [val_main_v46_apply, val_main_v45_apply, v42_at, e]
  have hc := IntOp.cmpi_slt (x := BitVec.ofNat 32 (rank (before (aff x0 x2 x3 x5 x6 b m)) k)) (y := val_main_v39 (F := Ideal) x4 (ix1 b))
  rw [toInt_small _ hr] at hc
  by_cases h : (rank (before (aff x0 x2 x3 x5 x6 b m)) k : ℤ) < (val_main_v39 (F := Ideal) x4 (ix1 b)).toInt
  · rw [if_pos h, hc.2 h]
    show (((1#1 : BitVec 1).toNat : ℝ) : EReal) = 1
    simp
  · rw [if_neg h, (BitVec.eq_zero_or_eq_one _).resolve_right fun h' => h (hc.1 h')]
    show (((0#1 : BitVec 1).toNat : ℝ) : EReal) = 0
    simp

/-- The reference's result. -/
theorem v48_at (b : Fin 4096) (m : Fin 5) (d : Fin 32) :
    val_main_v48 (F := Ideal) x0 x2 x3 x4 x5 x6 (ix3 b m d)
      = result (interest (hist x0 b) (mat x5) (mat x6) (x3 (ix1 b))) (aff x0 x2 x3 x5 x6 b m) (val_main_v39 (F := Ideal) x4 (ix1 b)).toInt d := by
  rw [val_main_v48_apply]
  refine Finset.sum_congr rfl fun k _ => ?_
  have el : lidx_main_v48 (ix3 b m d) k = ix3 b m k := funext fun a => by fin_cases a <;> rfl
  have er : ridx_main_v48 (ix3 b m d) k = ix3 b k d := funext fun a => by fin_cases a <;> rfl
  rw [el, er, val_main_v47_apply, v25_at, v46_at, v24_at]
  rfl

end Cert.Proof.Ref
end
-- ==== Proof.Algebraic.lean ====
/-
  The kernel against the reference at the extended reals: user by user, candidate by candidate and coordinate by coordinate both end at
  the same plain sum, where no user has more than thirty-two categories.
-/
module

public import proofs.«01_k».proof.Proof.KerVal
public import proofs.«01_k».proof.Proof.RefRank
public import proofs.«01_k».proof.Proof.Gen.ReferenceIdeal.Run
public import proofs.«01_k».proof.Proof.Gen.ReferenceIdeal.Read
public import Idealize.ShloMosaic.Lib.ReduceAll

@[expose] public section

noncomputable section

namespace Cert.Proof.Ref

open Cert.ReferenceIdeal Cert.ReferenceIdeal.Gen Cert.ReferenceIdeal.Read Idealize.ShloMosaic

/-- The reference's count of a user's interests. -/
theorem v39_at (x4 : Vec Ideal S4096 .i32) (b : Fin 4096) : val_main_v39 (F := Ideal) x4 (ix1 b) = Count.cnt (x4 (ix1 b)) := by
  unfold val_main_v39 val_main_call3_v4 val_main_call3_v3 val_main_call3_v2 val_main_call3_v1 val_main_call3_v0 val_main_v38 val_main_v37
    val_main_v36 val_main_v35 val_main_v34 val_main_v33 val_main_v32 val_main_v31 val_main_v30 val_main_v29 val_main_v28 val_main_v27
    val_main_v26 val_main_call2_v1 val_main_call2_v0 val_main_cst_6 val_main_cst_7 val_main_cst_8 val_main_cst_9 val_main_cst_10 val_main_c
    val_main_c_11
  pointwise
  rfl

end Cert.Proof.Ref

namespace Cert.Proof.Run

open Cert.KernelIdeal Cert.KernelIdeal.Gen Idealize.ShloMosaic
open Cert.Proof.Spec

/-- The precondition, read back: no user has more than thirty-two categories. -/
theorem counts_le (m : (ℓ : Loc nD τ sig) → Buf (Elt Ideal) ℓ) (h : Cert.Pre_KernelIdeal_category_counts_at_most_32 m) (d : Dev nD) (b : Fin 4096) :
    (arg4 m d (ix1 b)).toInt ≤ 32 := by
  have e := congrFun (h d) ix0
  dsimp only [Cert.Pre_category_counts_at_most_32.fn] at e
  haveI : Subsingleton Cert.Pre_category_counts_at_most_32.S_.Idx := ⟨fun _ _ => funext fun a => a.elim0⟩
  have := Host.reduce_andi_all _ _ _ _ _ e (ix1 b)
  exact IntOp.cmpi_sle.1 this

/-- The kernel's result is the reference's, at an index and whole. -/
theorem result_at (m : (ℓ : Loc nD τ sig) → Buf (Elt Ideal) ℓ) (h : Cert.Pre_KernelIdeal_category_counts_at_most_32 m) (d : Dev nD)
    (b : Fin 4096) (i : Fin 5) (j : Fin 32) :
    (W5 m d (Proc.devRef .tc main_v22) : Vec Ideal S4096x5x32 .f32) (Idealize.ShloMosaic.ix3 b i j)
      = Cert.ReferenceIdeal.Read.val_main_v48 (F := Ideal) (arg0 m d) (arg2 m d) (arg3 m d) (arg4 m d) (arg5 m d) (arg6 m d)
          (Idealize.ShloMosaic.ix3 b i j) := by
  refine (W5_v22 m d b i j (counts_le m h d b)).trans ?_
  refine Eq.trans ?_ (Ref.v48_at (arg0 m d) (arg2 m d) (arg3 m d) (arg4 m d) (arg5 m d) (arg6 m d) b i j).symm
  rw [Ref.v39_at]
  rfl
theorem result_eq (m : (ℓ : Loc nD τ sig) → Buf (Elt Ideal) ℓ) (h : Cert.Pre_KernelIdeal_category_counts_at_most_32 m) (d : Dev nD) :
    (W5 m d (Proc.devRef .tc main_v22) : Vec Ideal S4096x5x32 .f32)
      = Cert.ReferenceIdeal.Read.val_main_v48 (F := Ideal) (arg0 m d) (arg2 m d) (arg3 m d) (arg4 m d) (arg5 m d) (arg6 m d) := by
  funext y
  have hy : (y : S4096x5x32.Idx) = Idealize.ShloMosaic.ix3 (y 0) (y 1) (y 2) := funext fun a => by fin_cases a <;> rfl
  rw [hy]
  exact result_at m h d (y 0) (y 1) (y 2)

theorem algebraic : Cert.algebraic_KernelIdeal_ReferenceIdeal_pre_category_counts_at_most_32 := by
  intro m ρ m' ρ' hpre hag
  refine ⟨fun c => W5 m c (Proc.devRef .tc main_v22), ?_, ?_⟩
  · exact (θ_run (Cert.KernelIdeal.defs (F := Ideal)) _ _).mono
      (fun r h c => ⟨QC_at (F := Ideal) m h c main_v22 rfl, QC_args (F := Ideal) m h c⟩) (run_main (F := Ideal) m ρ)
  · refine (θ_run (Cert.ReferenceIdeal.defs (F := Ideal)) _ _).mono (fun r h c => ⟨?_, (h c).2⟩) (Cert.ReferenceIdeal.Value.run (F := Ideal) m' ρ')
    obtain ⟨e0, -, e2, e3, e4, e5, e6⟩ := hag c
    refine (h c).1.trans ((Cert.ReferenceIdeal.Read.val_main_v48_eq (F := Ideal) _).trans ?_)
    refine Eq.trans ?_ (result_eq m hpre c).symm
    exact congr (congr (congr (congr (congr (congrArg (Cert.ReferenceIdeal.Read.val_main_v48 (F := Ideal)) e0) e2) e3) e4) e5) e6

end Cert.Proof.Run
end
-- ==== Proof.lean ====
/-
  The certificate: the frames of the program and of the reference, from the run of the launch (Proof/Launch.lean) and the
  reference's run; and the program's result against the reference's over the extended reals (Proof/Algebraic.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic
public import proofs.«01_k».proof.Proof.Gen.Pre_category_counts_at_most_32
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_category_counts_at_most_32.Gen.facts,
    Cert.Proof.Run.frame_words, Cert.Proof.Run.frame_ideal, fun m ρ _ => Cert.Proof.Run.frame_ideal m ρ trivial,
    Cert.Proof.Run.frame_ref, fun m ρ _ => Cert.Proof.Run.frame_ref m ρ trivial, trivial, Cert.Proof.Run.algebraic⟩

end Cert.Proof

end
